-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1x1024 : Shape := ⟨2, ![1, 1024]⟩
abbrev S4x1x1024 : Shape := ⟨3, ![4, 1, 1024]⟩
abbrev S8 : Shape := ⟨1, ![8]⟩
abbrev S3 : Shape := ⟨1, ![3]⟩
abbrev S_ : Shape := ⟨0, ![]⟩
abbrev S1 : Shape := ⟨1, ![1]⟩
abbrev S512x1024 : Shape := ⟨2, ![512, 1024]⟩
abbrev S1024 : Shape := ⟨1, ![1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S1x1024, .bf16⟩
  | .local _ .vmem, ⟨0, _⟩ => ⟨S1x1024, .bf16⟩
  | .local _ .vmem, ⟨1, _⟩ => ⟨S4x1x1024, .bf16⟩
  | .local _ .vmem, ⟨2, _⟩ => ⟨S4096x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v165 : Index := Scalar.indexCast v2
  let c0_113 : Index := 0#32
  let c0_114 : Index := 0#32
  ![v165.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_127 : BitVec 32 := 0#32
  let c0_i32_128 : BitVec 32 := 0#32
  ![v2.toNat, 0, 0]
def k0_dev4 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_116 : BitVec 32 := 1#32
  let v169 : BitVec 32 := Scalar.addi v2 c1_i32_116
  let c4_i32_117 : BitVec 32 := 4#32
  let c0_i32_118 : BitVec 32 := 0#32
  let v170 : BitVec 1 := Scalar.cmpi .eq c4_i32_117 c0_i32_118
  let c1_i32_119 : BitVec 32 := 1#32
  let v171 : BitVec 32 := Scalar.select v170 c1_i32_119 c4_i32_117
  let v172 : BitVec 32 := Scalar.remsi v169 v171
  let c0_i32_121 : BitVec 32 := 0#32
  let v174 : BitVec 1 := Scalar.cmpi .slt v172 c0_i32_121
  let c0_i32_122 : BitVec 32 := 0#32
  let v175 : BitVec 1 := Scalar.cmpi .slt v171 c0_i32_122
  let v176 : BitVec 1 := Scalar.xori v174 v175
  let c0_i32_120 : BitVec 32 := 0#32
  let v173 : BitVec 1 := Scalar.cmpi .ne v172 c0_i32_120
  let v177 : BitVec 1 := Scalar.andi v176 v173
  let v178 : BitVec 32 := Scalar.addi v172 v171
  let v179 : BitVec 32 := Scalar.select v177 v178 v172
  let c1_i32_125 : BitVec 32 := 1#32
  let v180 : BitVec 32 := Scalar.muli v179 c1_i32_125
  let v181 : BitVec 32 := Scalar.addi c0_i32_126 v180
  v181.toNat
def k0_dev5 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_131 : BitVec 32 := 2#32
  let v190 : BitVec 32 := Scalar.addi v2 c2_i32_131
  let c4_i32_132 : BitVec 32 := 4#32
  let c0_i32_133 : BitVec 32 := 0#32
  let v191 : BitVec 1 := Scalar.cmpi .eq c4_i32_132 c0_i32_133
  let c1_i32_134 : BitVec 32 := 1#32
  let v192 : BitVec 32 := Scalar.select v191 c1_i32_134 c4_i32_132
  let v193 : BitVec 32 := Scalar.remsi v190 v192
  let c0_i32_136 : BitVec 32 := 0#32
  let v195 : BitVec 1 := Scalar.cmpi .slt v193 c0_i32_136
  let c0_i32_137 : BitVec 32 := 0#32
  let v196 : BitVec 1 := Scalar.cmpi .slt v192 c0_i32_137
  let v197 : BitVec 1 := Scalar.xori v195 v196
  let c0_i32_135 : BitVec 32 := 0#32
  let v194 : BitVec 1 := Scalar.cmpi .ne v193 c0_i32_135
  let v198 : BitVec 1 := Scalar.andi v197 v194
  let v199 : BitVec 32 := Scalar.addi v193 v192
  let v200 : BitVec 32 := Scalar.select v198 v199 v193
  let c1_i32_140 : BitVec 32 := 1#32
  let v201 : BitVec 32 := Scalar.muli v200 c1_i32_140
  let v202 : BitVec 32 := Scalar.addi c0_i32_141 v201
  v202.toNat
def k0_dev6 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_146 : BitVec 32 := 3#32
  let v211 : BitVec 32 := Scalar.addi v2 c3_i32_146
  let c4_i32_147 : BitVec 32 := 4#32
  let c0_i32_148 : BitVec 32 := 0#32
  let v212 : BitVec 1 := Scalar.cmpi .eq c4_i32_147 c0_i32_148
  let c1_i32_149 : BitVec 32 := 1#32
  let v213 : BitVec 32 := Scalar.select v212 c1_i32_149 c4_i32_147
  let v214 : BitVec 32 := Scalar.remsi v211 v213
  let c0_i32_151 : BitVec 32 := 0#32
  let v216 : BitVec 1 := Scalar.cmpi .slt v214 c0_i32_151
  let c0_i32_152 : BitVec 32 := 0#32
  let v217 : BitVec 1 := Scalar.cmpi .slt v213 c0_i32_152
  let v218 : BitVec 1 := Scalar.xori v216 v217
  let c0_i32_150 : BitVec 32 := 0#32
  let v215 : BitVec 1 := Scalar.cmpi .ne v214 c0_i32_150
  let v219 : BitVec 1 := Scalar.andi v218 v215
  let v220 : BitVec 32 := Scalar.addi v214 v213
  let v221 : BitVec 32 := Scalar.select v219 v220 v214
  let c1_i32_155 : BitVec 32 := 1#32
  let v222 : BitVec 32 := Scalar.muli v221 c1_i32_155
  let v223 : BitVec 32 := Scalar.addi c0_i32_156 v222
  v223.toNat
def k0_off3 (d0 : Dev nD) (c1_i32_161 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v232 : BitVec 32 := Scalar.subi v2 c1_i32_161
  let c4_i32_162 : BitVec 32 := 4#32
  let c0_i32_163 : BitVec 32 := 0#32
  let v233 : BitVec 1 := Scalar.cmpi .eq c4_i32_162 c0_i32_163
  let c1_i32_164 : BitVec 32 := 1#32
  let v234 : BitVec 32 := Scalar.select v233 c1_i32_164 c4_i32_162
  let v235 : BitVec 32 := Scalar.remsi v232 v234
  let c0_i32_166 : BitVec 32 := 0#32
  let v237 : BitVec 1 := Scalar.cmpi .slt v235 c0_i32_166
  let c0_i32_167 : BitVec 32 := 0#32
  let v238 : BitVec 1 := Scalar.cmpi .slt v234 c0_i32_167
  let v239 : BitVec 1 := Scalar.xori v237 v238
  let c0_i32_165 : BitVec 32 := 0#32
  let v236 : BitVec 1 := Scalar.cmpi .ne v235 c0_i32_165
  let v240 : BitVec 1 := Scalar.andi v239 v236
  let v241 : BitVec 32 := Scalar.addi v235 v234
  let v242 : BitVec 32 := Scalar.select v240 v241 v235
  let c0_i32_179 : BitVec 32 := 0#32
  let c0_i32_180 : BitVec 32 := 0#32
  ![v242.toNat, 0, 0]
def k0_off4 (d0 : Dev nD) (c1_i32_161 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v232 : BitVec 32 := Scalar.subi v2 c1_i32_161
  let c4_i32_162 : BitVec 32 := 4#32
  let c0_i32_163 : BitVec 32 := 0#32
  let v233 : BitVec 1 := Scalar.cmpi .eq c4_i32_162 c0_i32_163
  let c1_i32_164 : BitVec 32 := 1#32
  let v234 : BitVec 32 := Scalar.select v233 c1_i32_164 c4_i32_162
  let v235 : BitVec 32 := Scalar.remsi v232 v234
  let c0_i32_166 : BitVec 32 := 0#32
  let v237 : BitVec 1 := Scalar.cmpi .slt v235 c0_i32_166
  let c0_i32_167 : BitVec 32 := 0#32
  let v238 : BitVec 1 := Scalar.cmpi .slt v234 c0_i32_167
  let v239 : BitVec 1 := Scalar.xori v237 v238
  let c0_i32_165 : BitVec 32 := 0#32
  let v236 : BitVec 1 := Scalar.cmpi .ne v235 c0_i32_165
  let v240 : BitVec 1 := Scalar.andi v239 v236
  let v241 : BitVec 32 := Scalar.addi v235 v234
  let v242 : BitVec 32 := Scalar.select v240 v241 v235
  let v262 : Index := Scalar.indexCast v242
  let c0_183 : Index := 0#32
  let c0_184 : Index := 0#32
  ![v262.toNat, 0, 0]
abbrev stage0_0 : Fin 1 → Memref sig .tc .vmem S1x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S1x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.ColSum.Layout.lean ====
/-
# The column-sum all-reduce: devices, buffers, semaphores and contents

Four devices each hold 4096 rows of a 16384-row matrix. A device copies its rows chunk by chunk (eight chunks of 512
rows) into fast memory, adds up each column, writes the row of sums into its own slot of a four-slot buffer, sends that
slot to the three other devices, and adds the three slots it receives to its own row.

This module names what the proof talks about: the devices at distance one, two and three; the chunk and slot pieces of
the buffers; the semaphores by role; and the contents every piece holds. Nothing here mentions ownership or execution.
-/
module

public import proofs.«01_k».proof.Proof.Gen.KernelIdeal
public import proofs.«01_k».proof.Proof.Gen.KernelIdeal.Skeleton

@[expose] public section

noncomputable section

namespace Cert.ColSum

open Cert.KernelIdeal Cert.KernelIdeal.Gen
open Idealize.ShloMosaic Idealize.ShloMosaic.TcCoe

variable {F : FTy → Type} [FloatOps F]

/-! ## Devices around the ring -/

set_option backward.proofsInPublic true in
/-- The device `j + 1` places after `c`. -/
def fwd (c : Dev nD) (j : Fin 3) : Dev nD := ⟨(c.val + (j.val + 1)) % 4, Nat.mod_lt _ (by decide)⟩
set_option backward.proofsInPublic true in
/-- The device `j + 1` places before `c`. -/
def bwd (c : Dev nD) (j : Fin 3) : Dev nD := ⟨(c.val + (3 - j.val)) % 4, Nat.mod_lt _ (by decide)⟩

/-- Going forward and then back by the same distance returns to the start, -/
theorem bwd_fwd (c : Dev nD) (j : Fin 3) : bwd (fwd c j) j = c := by revert c j; decide
/-- and so does going back and then forward. -/
theorem fwd_bwd (c : Dev nD) (j : Fin 3) : fwd (bwd c j) j = c := by revert c j; decide
/-- Three places on is one place back, and so on. -/
theorem bwd_rev (c : Dev nD) (j : Fin 3) : bwd c j.rev = fwd c j := by revert c j; decide
/-- No two of the other devices are the same one. -/
theorem fwd_injective (c : Dev nD) : Function.Injective (fwd c) := by revert c; decide

/-- The rotation of the devices by `j + 1` places. -/
def turn (j : Fin 3) : Dev nD ≃ Dev nD := ⟨(fwd · j), (bwd · j), fun c => bwd_fwd c j, fun c => fwd_bwd c j⟩

/-- The three signals go to the devices one, two and three places on, -/
theorem dev1_eq (c : Dev nD) : (⟨k0_dev1 c, k0_dev1_lt c⟩ : Dev nD) = fwd c 0 := by revert c; decide +kernel
theorem dev2_eq (c : Dev nD) : (⟨k0_dev2 c, k0_dev2_lt c⟩ : Dev nD) = fwd c 1 := by revert c; decide +kernel
theorem dev3_eq (c : Dev nD) : (⟨k0_dev3 c, k0_dev3_lt c⟩ : Dev nD) = fwd c 2 := by revert c; decide +kernel
/-- and so do the three transfers. -/
theorem dev4_eq (c : Dev nD) : (⟨k0_dev4 c, k0_dev4_lt c⟩ : Dev nD) = fwd c 0 := by revert c; decide +kernel
theorem dev5_eq (c : Dev nD) : (⟨k0_dev5 c, k0_dev5_lt c⟩ : Dev nD) = fwd c 1 := by revert c; decide +kernel
theorem dev6_eq (c : Dev nD) : (⟨k0_dev6 c, k0_dev6_lt c⟩ : Dev nD) = fwd c 2 := by revert c; decide +kernel

/-! ## Buffers and their pieces -/

/-- The device's rows, in slow memory. -/
abbrev xM : Memref sig .tc .hbm S4096x1024 .bf16 := Memref.whole main_arg0
/-- The fast-memory copy of them. -/
abbrev vM : Memref sig .tc .vmem S4096x1024 .bf16 := Memref.whole cc0_scratch1
/-- The four-slot buffer of partial sums. -/
abbrev cM : Memref sig .tc .vmem S4x1x1024 .bf16 := Memref.whole cc0_scratch0
/-- The result row. -/
abbrev oM : Memref sig .tc .vmem S1x1024 .bf16 := Memref.whole cc0_stg0_0

theorem rows_inb (i : Fin 8) : ∀ a, (![512 * i.val, 0] : Fin 2 → Nat) a + S512x1024.size a ≤ S4096x1024.size a := by
  revert i; decide
theorem slot_inb (s : Dev nD) : ∀ a, (![s.val, 0, 0] : Fin 3 → Nat) a + S1x1x1024.size a ≤ S4x1x1024.size a := by
  revert s; decide

/-- Chunk `i`: rows `512 i` to `512 i + 511`. -/
abbrev rowsR (i : Fin 8) : Rect S4096x1024 := Rect.unit (s := S4096x1024) ![512 * i.val, 0] S512x1024.size (rows_inb i)
/-- Slot `s` of the four-slot buffer. -/
abbrev slotR (s : Dev nD) : Rect S4x1x1024 := Rect.unit (s := S4x1x1024) ![s.val, 0, 0] S1x1x1024.size (slot_inb s)

/-- Chunk `i` of the rows, -/
abbrev xPart (i : Fin 8) : Memref sig .tc .hbm S512x1024 .bf16 := xM.slice (rowsR i) (fun _ => rfl)
/-- of their copy, -/
abbrev vPart (i : Fin 8) : Memref sig .tc .vmem S512x1024 .bf16 := vM.slice (rowsR i) (fun _ => rfl)
/-- and slot `s` as a transfer names it. -/
abbrev slotM (s : Dev nD) : Memref sig .tc .vmem S1x1024 .bf16 :=
  (cM.slice (slotR s) (fun _ => rfl)).squeeze S1x1024 squeezes_S1x1x1024_S1x1024

/-- The elements of chunk `i`, -/
def rowsSet (i : Fin 8) : Finset S4096x1024.Idx := (rowsR i).set
/-- and of slot `s`. -/
def slotSet (s : Dev nD) : Finset S4x1x1024.Idx := (slotR s).set

theorem off1_eq (c : Dev nD) : k0_off1 c = ![c.val, 0, 0] := by revert c; decide +kernel
theorem off2_eq (c : Dev nD) : k0_off2 c = ![c.val, 0, 0] := by revert c; decide +kernel
/-- The slots waited for and read are those of the devices one, two and three places back. -/
theorem off3_eq (c : Dev nD) (j : Fin 3) : k0_off3 c (BitVec.ofNat 32 (1 + j.val)) = ![(bwd c j).val, 0, 0] := by
  revert c j; decide +kernel
theorem off4_eq (c : Dev nD) (j : Fin 3) : k0_off4 c (BitVec.ofNat 32 (1 + j.val)) = ![(bwd c j).val, 0, 0] := by
  revert c j; decide +kernel

theorem xPart_set (i : Fin 8) : (xPart i).view.set = rowsSet i := View.set_slice_whole main_arg0 (rowsR i)
theorem vPart_set (i : Fin 8) : (vPart i).view.set = rowsSet i := View.set_slice_whole cc0_scratch1 (rowsR i)
theorem slotM_set (s : Dev nD) : (slotM s).view.set = slotSet s :=
  (View.set_reshape _ _).trans (View.set_slice_whole cc0_scratch0 (slotR s))

/-- Two chunks share no element; -/
theorem rows_disjoint (i i' : Fin 8) (h : i ≠ i') : Disjoint (rowsSet i) (rowsSet i') :=
  Rect.unit_disjoint (0 : Fin 2) (by
    have := Fin.val_ne_of_ne h
    show 512 * i.val + 512 ≤ 512 * i'.val ∨ 512 * i'.val + 512 ≤ 512 * i.val
    omega)
/-- nor do two slots. -/
theorem slot_disjoint (s s' : Dev nD) (h : s ≠ s') : Disjoint (slotSet s) (slotSet s') :=
  Rect.unit_disjoint (0 : Fin 3) (by
    have := Fin.val_ne_of_ne h
    show s.val + 1 ≤ s'.val ∨ s'.val + 1 ≤ s.val
    omega)
/-- The eight chunks are all the rows, -/
theorem rows_cover : Finset.univ.biUnion rowsSet = (Finset.univ : Finset S4096x1024.Idx) := by
  refine Finset.eq_univ_iff_forall.mpr fun x => Finset.mem_biUnion.mpr ?_
  have h0 : (x (0 : Fin 2)).val < 4096 := (x (0 : Fin 2)).isLt
  have h1 : (x (1 : Fin 2)).val < 1024 := (x (1 : Fin 2)).isLt
  refine ⟨⟨(x (0 : Fin 2)).val / 512, by omega⟩, Finset.mem_univ _, ?_⟩
  refine Rect.mem_set_unit.mpr (Fin.forall_fin_two.mpr ⟨?_, ?_⟩)
  · show 512 * ((x (0 : Fin 2)).val / 512) ≤ (x (0 : Fin 2)).val ∧ (x (0 : Fin 2)).val < 512 * ((x (0 : Fin 2)).val / 512) + 512
    omega
  · show 0 ≤ (x (1 : Fin 2)).val ∧ (x (1 : Fin 2)).val < 0 + 1024
    omega
/-- and the four slots all the buffer. -/
theorem slot_cover : Finset.univ.biUnion slotSet = (Finset.univ : Finset S4x1x1024.Idx) := by
  refine Finset.eq_univ_iff_forall.mpr fun x => Finset.mem_biUnion.mpr ?_
  have h0 : (x (0 : Fin 3)).val < 4 := (x (0 : Fin 3)).isLt
  have h1 : (x (1 : Fin 3)).val < 1 := (x (1 : Fin 3)).isLt
  have h2 : (x (2 : Fin 3)).val < 1024 := (x (2 : Fin 3)).isLt
  refine ⟨⟨(x (0 : Fin 3)).val, h0⟩, Finset.mem_univ _, Rect.mem_set_unit.mpr fun a => ?_⟩
  match a with
  | ⟨0, _⟩ => exact ⟨le_refl _, Nat.lt_succ_self _⟩
  | ⟨1, _⟩ => exact ⟨Nat.zero_le _, by show (x (1 : Fin 3)).val < 0 + 1; omega⟩
  | ⟨2, _⟩ => exact ⟨Nat.zero_le _, by show (x (2 : Fin 3)).val < 0 + 1024; omega⟩

/-! ## Semaphores by role -/

/-- What a device's semaphore is for: the meeting point of all devices; the `j`-th transfer having left; the `j`-th
    transfer having arrived; the `i`-th chunk having been copied. -/
abbrev Role : Type := Unit ⊕ (Fin 3 ⊕ (Fin 3 ⊕ Fin 8))

namespace Role
abbrev bar : Role := .inl ()
abbrev send (j : Fin 3) : Role := .inr (.inl j)
abbrev recv (j : Fin 3) : Role := .inr (.inr (.inl j))
abbrev copy (i : Fin 8) : Role := .inr (.inr (.inr i))
end Role

theorem copy_lt (i : Fin 8) : 1 + i.val < 15 := by omega
theorem send_lt (j : Fin 3) : 9 + j.val < 15 := by omega
theorem recv_lt (j : Fin 3) : 12 + j.val < 15 := by omega
/-- The semaphore of each role: -/
abbrev barS : Sem sig := (SemArray.scalar (sig.barrier 0 rfl) : Sems sig S_).sem
abbrev copyS (i : Fin 8) : DmaSem sig := ⟨1 + i.val, copy_lt i⟩
abbrev sendS (j : Fin 3) : DmaSem sig := ⟨9 + j.val, send_lt j⟩
abbrev recvS (j : Fin 3) : DmaSem sig := ⟨12 + j.val, recv_lt j⟩

/-- the semaphore of a role, -/
def roleSem : Role → SemLoc sig
  | .inl _ => .reg barS
  | .inr (.inl j) => .dma (sendS j)
  | .inr (.inr (.inl j)) => .dma (recvS j)
  | .inr (.inr (.inr i)) => .dma (copyS i)

/-- and the role of a semaphore (the result row's own semaphore, which has none, is given a copy's). -/
def semRole : SemLoc sig → Role
  | .reg _ => .bar
  | .dma q => if q.val ≤ 8 then .copy (Fin.ofNat 8 (q.val - 1)) else if q.val ≤ 11 then .send (Fin.ofNat 3 (q.val - 9))
      else .recv (Fin.ofNat 3 (q.val - 12))

theorem semRole_roleSem (k : Role) : semRole (roleSem k) = k := by
  rcases k with _ | j | j | i
  · rfl
  · revert j; decide
  · revert j; decide
  · revert i; decide

/-- Device `c`'s semaphore of role `k`. -/
abbrev kcell (ck : Dev nD × Role) : GSem nD τ sig := ((ck.1 : Thread nD τ), roleSem ck.2)

/-- Different devices or different roles, different semaphores. -/
theorem kcell_injective : Function.Injective kcell := by
  rintro ⟨c, k⟩ ⟨c', k'⟩ h
  have h1 : c = c' := congrArg (fun g : GSem nD τ sig => g.1.1) h
  have h2 : roleSem k = roleSem k' := congrArg Prod.snd h
  have h3 : k = k' := by rw [← semRole_roleSem k, h2, semRole_roleSem]
  rw [h1, h3]

/-- What one chunk's copy counts on its semaphore, -/
abbrev NC : ℕ := (vPart 0).view.dmaCredit
/-- and what one slot's transfer counts. -/
abbrev NS : ℕ := (slotM 0).view.dmaCredit
theorem NC_pos : 0 < NC := View.dmaCredit_pos _ (by decide)
theorem NS_pos : 0 < NS := View.dmaCredit_pos _ (by decide)

/-! ## Contents -/

section Contents

variable (m : (ℓ : Loc nD τ sig) → Buf (Elt F) ℓ)

/-- Device `c`'s rows at the start. -/
def rows (c : Dev nD) : Vec F S4096x1024 .bf16 := m ((c : Thread nD τ).loc main_arg0)

/-- Chunk `i` of device `c`'s rows. -/
def chunk (c : Dev nD) (i : Fin 8) : Vec F S512x1024 .bf16 := (vM).view.readAt (Elt F) (rowsR i).toLoadRect (rows m c)

/-- The column sums of chunks 0 to 5, as the program accumulates them, -/
def acc (c : Dev nD) : FVec F S1x1024 .f32 :=
  k0_pay5 (k0_pay3 k0_pay1 (k0_pay2 (chunk m c 0)) (chunk m c 1) (chunk m c 2)) (k0_pay4 (chunk m c 3)) (chunk m c 4) (chunk m c 5)
/-- the row of column sums device `c` computes from its own rows, -/
def own (c : Dev nD) : FVec F S1x1024 .bf16 := k0_pay7 (acc m c) (k0_pay6 (chunk m c 6)) (chunk m c 7)
/-- and the same in the shape of a slot. -/
def part (c : Dev nD) : FVec F S1x1x1024 .bf16 := k0_pay8 (acc m c) (k0_pay6 (chunk m c 6)) (chunk m c 7)

/-- The four-slot buffer with every device's row in its slot. -/
def gathered : Vec F S4x1x1024 .bf16 := fun x =>
  part m (⟨(x (0 : Fin 3)).val, (x (0 : Fin 3)).isLt⟩ : Dev nD) fun a => match a with
    | ⟨0, _⟩ => (0 : Fin 1)
    | ⟨1, _⟩ => x (1 : Fin 3)
    | ⟨2, _⟩ => x (2 : Fin 3)

/-- The row device `c` writes as its result: its own and, one after another, the rows of the devices one, three and two
    places back. -/
def total (c : Dev nD) : FVec F S1x1024 .bf16 :=
  k0_pay11 (k0_pay10 (k0_pay9 (own m c) (part m (bwd c 0))) (part m (bwd c 2))) (part m (bwd c 1))

/-- Slot `s` of the gathered buffer reads as device `s`'s row. -/
theorem read_gathered (s : Dev nD) : (cM).view.readAt (Elt F) (slotR s).toLoadRect (gathered m) = part m s := by
  funext x
  show gathered m ((slotR s).emb x) = part m s x
  have hs : (⟨((slotR s).emb x (0 : Fin 3)).val, ((slotR s).emb x (0 : Fin 3)).isLt⟩ : Dev nD) = s := by
    refine Fin.ext ?_
    have hx : (x (0 : Fin 3)).val < 1 := (x (0 : Fin 3)).isLt
    show s.val + 1 * (x (0 : Fin 3)).val = s.val
    omega
  unfold gathered
  rw [hs]
  refine congrArg _ (funext fun a => ?_)
  match a with
  | ⟨0, _⟩ =>
    refine Fin.ext ?_
    have hx : (x (0 : Fin 3)).val < 1 := (x (0 : Fin 3)).isLt
    show 0 = (x (0 : Fin 3)).val
    omega
  | ⟨1, _⟩ => exact Fin.ext (by show 0 + 1 * (x (1 : Fin 3)).val = (x (1 : Fin 3)).val; omega)
  | ⟨2, _⟩ => exact Fin.ext (by show 0 + 1 * (x (2 : Fin 3)).val = (x (2 : Fin 3)).val; omega)

end Contents

end Cert.ColSum

end
-- ==== Proof.ColSum.Protocol.lean ====
/-
# The column-sum all-reduce: what each semaphore promises

Every semaphore of the kernel counts up exactly once, in one round. This module states, for each role, who contributes
to the count, how much, and which piece of memory changes hands with the contribution:

* the meeting point of device `e`: each other device contributes one unit and hands `e` the slot of ITS buffer that `e`
  will fill — so a device that has waited for all three may write to all three;
* "the `j`-th transfer has left": a third of the sender's own slot comes back to it;
* "the `j`-th transfer has arrived": the receiver gets the sender's slot of its buffer, filled with the sender's row;
* "chunk `i` has been copied": the chunk of the copy, filled, and the chunk of the rows back.
-/
module

public import proofs.«01_k».proof.Proof.ColSum.Layout
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring.Trips
public import Idealize.ShloMosaic.Lib.Tactic

@[expose] public section

noncomputable section

namespace Cert.ColSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

/-! ## Ghost state: the pipeline library's, and the kernel's own rounds with up to three contributions each -/

abbrev UC : Type := URounds (GSem nD τ sig) (Fin 3)
abbrev UU : Type := UR sig nD τ × UC

local notation "𝕄" => MT nD τ sig Unit (Elt F) ℕ UU ℕ

abbrev EP : Emb (UR sig nD τ) (MT nD τ sig Unit (Elt F) ℕ UU ℕ) := embL
abbrev ER : Emb UC (MT nD τ sig Unit (Elt F) ℕ UU ℕ) := embR

variable (m : (ℓ : Loc nD τ sig) → Buf (Elt F) ℓ)

/-! ## Pieces of memory -/

/-- Chunk `i` of device `c`'s rows, unchanged; -/
def xPts (c : Dev nD) (i : Fin 8) : sProp 𝕄 := (c : Thread nD τ).loc main_arg0 ↦[rowsSet i]{fullShare} rows m c
/-- chunk `i` of the copy at given contents; -/
def vPts (c : Dev nD) (i : Fin 8) (f : Vec F S4096x1024 .bf16) : sProp 𝕄 :=
  (c : Thread nD τ).loc cc0_scratch1 ↦[rowsSet i]{fullShare} f
/-- slot `s` of device `c`'s buffer at given contents, at a share. -/
def cPts (c s : Dev nD) (q : PosShare TreeShare) (f : Vec F S4x1x1024 .bf16) : sProp 𝕄 :=
  (c : Thread nD τ).loc cc0_scratch0 ↦[slotSet s]{q} f

omit [FloatOps F] in
instance xPts_storable (c : Dev nD) (i : Fin 8) : BI.Storable (upEmb : UEmb _ 𝕄) (xPts m c i) := by unfold xPts; infer_instance
omit [FloatOps F] in
instance vPts_storable (c : Dev nD) (i : Fin 8) (f) : BI.Storable (upEmb : UEmb _ 𝕄) (vPts (F := F) c i f) := by unfold vPts; infer_instance
omit [FloatOps F] in
instance cPts_storable (c s : Dev nD) (q) (f) : BI.Storable (upEmb : UEmb _ 𝕄) (cPts (F := F) c s q f) := by unfold cPts; infer_instance

omit [FloatOps F] in
/-- The rows are their eight chunks; -/
theorem x_chunks (c : Dev nD) :
    ((c : Thread nD τ).loc main_arg0 ↦{fullShare} rows m c : sProp 𝕄) = bigSep Finset.univ (xPts m c) :=
  Ring.pointsTo_blocks (ℓ := (c : Thread nD τ).loc main_arg0) rowsSet rows_disjoint rows_cover _
omit [FloatOps F] in
/-- so is the copy, -/
theorem v_chunks (c : Dev nD) (f : Vec F S4096x1024 .bf16) :
    ((c : Thread nD τ).loc cc0_scratch1 ↦{fullShare} f : sProp 𝕄) = bigSep Finset.univ fun i => vPts c i f :=
  Ring.pointsTo_blocks (ℓ := (c : Thread nD τ).loc cc0_scratch1) rowsSet rows_disjoint rows_cover _
omit [FloatOps F] in
/-- and the buffer of partial sums is its four slots. -/
theorem c_slots (c : Dev nD) (f : Vec F S4x1x1024 .bf16) :
    ((c : Thread nD τ).loc cc0_scratch0 ↦{fullShare} f : sProp 𝕄) = bigSep Finset.univ fun s => cPts c s fullShare f :=
  Ring.pointsTo_blocks (ℓ := (c : Thread nD τ).loc cc0_scratch0) slotSet slot_disjoint slot_cover _

/-- A family over the devices, one by one from device `c`: itself and the three others. -/
theorem bigSep_around (c : Dev nD) (Φ : Dev nD → sProp 𝕄) :
    bigSep Finset.univ Φ = iprop(Φ c ∗ Φ (fwd c 0) ∗ Φ (fwd c 1) ∗ Φ (fwd c 2)) :=
  bigSep_univ_eq_bigSepL [c, fwd c 0, fwd c 1, fwd c 2] (by revert c; decide) (by revert c; decide) Φ
/-- The same going back. -/
theorem bigSep_back (c : Dev nD) (Φ : Dev nD → sProp 𝕄) :
    bigSep Finset.univ Φ = iprop(Φ c ∗ Φ (bwd c 0) ∗ Φ (bwd c 1) ∗ Φ (bwd c 2)) :=
  bigSep_univ_eq_bigSepL [c, bwd c 0, bwd c 1, bwd c 2] (by revert c; decide) (by revert c; decide) Φ
theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The schedule -/

/-- How many contributions a role's round has: three at the meeting point, one elsewhere; -/
def dutiesOf : Role → Finset (Fin 3)
  | .inl _ => Finset.univ
  | .inr _ => {0}
/-- what each one counts; -/
def amountOf : Role → ℕ
  | .inl _ => 1
  | .inr (.inl _) => NS
  | .inr (.inr (.inl _)) => NS
  | .inr (.inr (.inr _)) => NC
/-- and what it hands to device `c`, whose semaphore it is. -/
def payOf (c : Dev nD) : Role → Fin 3 → sProp 𝕄
  | .inl _, j => iprop(∃ f, cPts (bwd c j) c fullShare f)
  | .inr (.inl j), _ => cPts c c (shares3 fullShare j) (gathered m)
  | .inr (.inr (.inl j)), _ => cPts c (bwd c j) fullShare (gathered m)
  | .inr (.inr (.inr i)), _ => iprop(vPts c i (rows m c) ∗ xPts m c i)

theorem amountOf_pos (k : Role) : 0 < amountOf k := by
  rcases k with _ | j | j | i
  exacts [Nat.one_pos, NS_pos, NS_pos, NC_pos]

instance payOf_storable (c : Dev nD) (k : Role) (j : Fin 3) : BI.Storable (upEmb : UEmb _ 𝕄) (payOf (F := F) m c k j) := by
  rcases k with _ | j | j | i <;> (unfold payOf; infer_instance)

/-- The one round of every semaphore. -/
def plan : Rounds.Schedule (GSem nD τ sig) (Fin 3) 𝕄 where
  duties g r := if r = 0 then dutiesOf (semRole g.2) else ∅
  unitless _ := False
  amount g _ _ := amountOf (semRole g.2)
  payload g _ j := payOf m g.1.1 (semRole g.2) j
  amount_pos g _ _ _ := amountOf_pos _

instance plan_storable (g : GSem nD τ sig) (r : ℕ) (j : Fin 3) :
    BI.Storable (upEmb : UEmb _ 𝕄) ((plan (F := F) m).payload g r j) := payOf_storable m _ _ _

section Plan
variable (c : Dev nD) (k : Role)

theorem plan_duties : (plan (F := F) m).duties (kcell (c, k)) 0 = dutiesOf k := by
  dsimp only [plan]; rw [if_pos rfl, semRole_roleSem]
theorem plan_duties_later (g : GSem nD τ sig) : ∀ r, 1 ≤ r → (plan (F := F) m).duties g r = ∅ :=
  fun r hr => by dsimp only [plan]; rw [if_neg (by omega)]
theorem plan_amount (j : Fin 3) : (plan (F := F) m).amount (kcell (c, k)) 0 j = amountOf k := by
  dsimp only [plan]; rw [semRole_roleSem]
theorem plan_payload (j : Fin 3) : (plan (F := F) m).payload (kcell (c, k)) 0 j = payOf m c k j := by
  dsimp only [plan]; rw [semRole_roleSem]
theorem plan_expect : (plan (F := F) m).expect (kcell (c, k)) 0 = (dutiesOf k).card * amountOf k := by
  unfold Schedule.expect Schedule.amountOf
  rw [plan_duties, Finset.sum_congr rfl fun j _ => plan_amount m c k j, Finset.sum_const, smul_eq_mul]
/-- All a round hands over. -/
theorem plan_rest : bigSep ((plan (F := F) m).duties (kcell (c, k)) 0 \ ∅) (fun j => (plan (F := F) m).payload (kcell (c, k)) 0 j)
    = bigSep (dutiesOf k) (payOf m c k) := by
  rw [Finset.sdiff_empty, plan_duties]
  exact bigSep_congr fun j _ => plan_payload m c k j

end Plan

/-! ## The records every device shares -/

/-- Every semaphore's promise, under the names `K`, and that every round has begun. -/
def records (K : Dev nD × Role → ℕ) : sProp 𝕄 :=
  iprop((bigSep Finset.univ fun ck : Dev nD × Role => cellInv ER (plan m) (K ck) (kcell ck))
    ∗ bigSep Finset.univ fun ck : Dev nD × Role => reached ER (kcell ck) 0)

instance records_persistent (K : Dev nD × Role → ℕ) : BI.Persistent (records m K) := by unfold records; infer_instance

theorem records_inv (K : Dev nD × Role → ℕ) (ck : Dev nD × Role) :
    records m K ⊢ (cellInv ER (plan m) (K ck) (kcell ck) : sProp 𝕄) := by
  unfold records
  iintro ⟨H, -⟩
  iapply (show (bigSep Finset.univ fun ck : Dev nD × Role => (cellInv ER (plan m) (K ck) (kcell ck) : sProp 𝕄)) ⊢ (cellInv ER (plan m) (K ck) (kcell ck) : sProp 𝕄) from bigSep_elim (Finset.mem_univ ck))
  iexact H
theorem records_reached (K : Dev nD × Role → ℕ) (ck : Dev nD × Role) :
    records m K ⊢ (reached ER (kcell ck) 0 : sProp 𝕄) := by
  unfold records
  iintro ⟨-, H⟩
  iapply (show (bigSep Finset.univ fun ck : Dev nD × Role => (reached ER (kcell ck) 0 : sProp 𝕄)) ⊢ (reached ER (kcell ck) 0 : sProp 𝕄) from bigSep_elim (Finset.mem_univ ck))
  iexact H

/-! ## What a device owes, and the order of waiting -/

/-- After its three signals device `c` still owes the three arrivals; -/
def owedRecv (c : Dev nD) : ℕ → CellTallies nD τ sig Unit
  | 0 => tallyAt (kcell (fwd c 2, .recv 2)) () NS + tallyAt (kcell (fwd c 1, .recv 1)) () NS + tallyAt (kcell (fwd c 0, .recv 0)) () NS
  | 1 => tallyAt (kcell (fwd c 2, .recv 2)) () NS + tallyAt (kcell (fwd c 1, .recv 1)) () NS
  | 2 => tallyAt (kcell (fwd c 2, .recv 2)) () NS
  | _ => 0
/-- before them it owes the three units at the other devices' meeting points as well. -/
def owedBar (c : Dev nD) : ℕ → CellTallies nD τ sig Unit
  | 0 => owedRecv c 0 + tallyAt (kcell (fwd c 2, .bar)) () 1 + tallyAt (kcell (fwd c 1, .bar)) () 1 + tallyAt (kcell (fwd c 0, .bar)) () 1
  | 1 => owedRecv c 0 + tallyAt (kcell (fwd c 2, .bar)) () 1 + tallyAt (kcell (fwd c 1, .bar)) () 1
  | 2 => owedRecv c 0 + tallyAt (kcell (fwd c 2, .bar)) () 1
  | _ => owedRecv c 0
/-- What it owes at the start. -/
abbrev owed₀ (c : Dev nD) : CellTallies nD τ sig Unit := owedBar c 0

/-- The order of waiting: meeting points before arrivals, everything else before both. -/
def levelOf : Role → ℕ
  | .inl _ => 1
  | .inr (.inr (.inl _)) => 2
  | _ => 0

def L (g : GSem nD τ sig) : Finset Unit := if g.1.2 = .tc then {()} else ∅
def lv (g : GSem nD τ sig) (_ : Unit) : ℕ := levelOf (semRole g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (ck : Dev nD × Role) : lv (kcell ck) () = levelOf ck.2 := by
  unfold lv; rw [semRole_roleSem]

theorem tally_pos {ck : Dev nD × Role} {n : ℕ} {g : GSem nD τ sig} {u : Unit}
    (h : 0 < (tallyAt (kcell ck) () n : CellTallies nD τ sig Unit) g u) : g = kcell ck := by
  rw [tallyAt_apply] at h
  by_contra hn
  rw [if_neg (fun h' => hn h'.1)] at h
  exact Nat.lt_irrefl 0 h

theorem add_pos_or {a b : CellTallies nD τ sig Unit} {g : GSem nD τ sig} {u : Unit} (h : 0 < (a + b) g u) :
    0 < a g u ∨ 0 < b g u := by
  rw [Pi.add_apply, Finsupp.add_apply] at h
  omega

/-- What is owed after the signals is owed to arrivals only, -/
theorem owedRecv_pos {c : Dev nD} {g : GSem nD τ sig} {u : Unit} (h : 0 < owedRecv c 0 g u) :
    ∃ ck : Dev nD × Role, g = kcell ck ∧ levelOf ck.2 = 2 := by
  unfold owedRecv at h
  rcases add_pos_or h with h | h
  · rcases add_pos_or h with h | h
    · exact ⟨_, tally_pos h, rfl⟩
    · exact ⟨_, tally_pos h, rfl⟩
  · exact ⟨_, tally_pos h, rfl⟩
/-- and before them to arrivals and meeting points. -/
theorem owed₀_pos {c : Dev nD} {g : GSem nD τ sig} {u : Unit} (h : 0 < owed₀ c g u) :
    ∃ ck : Dev nD × Role, g = kcell ck ∧ 0 < levelOf ck.2 := by
  unfold owed₀ owedBar at h
  rcases add_pos_or h with h | h
  · rcases add_pos_or h with h | h
    · rcases add_pos_or h with h | h
      · obtain ⟨ck, h1, h2⟩ := owedRecv_pos h
        exact ⟨ck, h1, by omega⟩
      · exact ⟨_, tally_pos h, Nat.one_pos⟩
    · exact ⟨_, tally_pos h, Nat.one_pos⟩
  · exact ⟨_, tally_pos h, Nat.one_pos⟩

/-- A device that owes arrivals only may wait for anything that is no arrival. -/
theorem mayWait_owing (c : Dev nD) (k : Role) (hk : levelOf k ≤ 1) :
    (levAts L lv : sProp 𝕄) ⊢ MayWait (c : Thread nD τ) (roleSem k) () (owedRecv c 0) :=
  MayOwe.of_cut (L := L) (lev := lv) 1 (fun p hp => by rw [Finset.mem_singleton.mp hp, L_tc]; exact Finset.mem_singleton_self _)
    (fun g u hg => by obtain ⟨ck, rfl, _⟩ := owedRecv_pos hg; rw [L_tc]; exact Finset.mem_singleton_self _)
    (fun p hp => by rw [Finset.mem_singleton.mp hp]; exact (lv_kcell (c, k)).trans_le hk)
    (fun g u hg => by
      obtain ⟨ck, rfl, h⟩ := owedRecv_pos hg
      show 1 < lv (kcell ck) ()
      rw [lv_kcell, h]; decide)

/-- A device that owes what it owes at the start, or nothing, may wait for the result row's write-back. -/
theorem mayWait_out (c : Dev nD) (q : DmaSem sig) (hq : lv ((c : Thread nD τ), .dma q) () = 0) (O : CellTallies nD τ sig Unit)
    (hO : O = owed₀ c ∨ O = 0) : (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by obtain ⟨ck, rfl, _⟩ := owed₀_pos hg; rw [L_tc]; exact Finset.mem_singleton_self _)
      (fun p hp => by rw [Finset.mem_singleton.mp hp]; exact hq.le)
      (fun g u hg => by
        obtain ⟨ck, rfl, h⟩ := owed₀_pos hg
        show 0 < lv (kcell ck) ()
        rw [lv_kcell]; exact h)
  · rw [MayWait_zero]; iintro -; iempintro

end Cert.ColSum

end
-- ==== Proof.ColSum.Steps.lean ====
/-
# The column-sum all-reduce: one rule per kind of step

For each kind of statement the kernel executes — a signal to another device, a chunk's copy and the wait for it, the
wait at the meeting point, a transfer and the waits for its two ends, the reads of a chunk and of a slot, the write of
a slot — one rule, stated over the pieces of memory and the promises of `Protocol`. The statement's operands are
variables with an equation each, so that a rule applies to the operands as the program computes them.
-/
module

public import proofs.«01_k».proof.Proof.ColSum.Protocol

@[expose] public section

noncomputable section

namespace Cert.ColSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Running program `p` on device `c` ends in a state where `Q` holds of its result. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever it has waited for so far. -/
def owing (c : Dev nD) (O : CellTallies nD τ sig Unit) : sProp 𝕄 := iprop(∃ W, owes (c : Thread nD τ) O W)

theorem payOf_bar (c : Dev nD) (j : Fin 3) : payOf m c .bar j = iprop(∃ f, cPts (bwd c j) c fullShare f) := rfl
theorem payOf_send (c : Dev nD) (j d : Fin 3) : payOf m c (.send j) d = cPts c c (shares3 fullShare j) (gathered m) := rfl
theorem payOf_recv (c : Dev nD) (j d : Fin 3) : payOf m c (.recv j) d = cPts c (bwd c j) fullShare (gathered m) := rfl
theorem payOf_copy (c : Dev nD) (i : Fin 8) (d : Fin 3) : payOf m c (.copy i) d = iprop(vPts c i (rows m c) ∗ xPts m c i) := rfl

theorem duty_send (c : Dev nD) (j : Fin 3) : (0 : Fin 3) ∈ (plan m).duties ((c : Thread nD τ), SemLoc.dma (sendS j)) 0 :=
  (plan_duties m c (.send j)).symm ▸ Finset.mem_singleton_self _
theorem duty_recv (c : Dev nD) (j : Fin 3) : (0 : Fin 3) ∈ (plan m).duties ((c : Thread nD τ), SemLoc.dma (recvS j)) 0 :=
  (plan_duties m c (.recv j)).symm ▸ Finset.mem_singleton_self _
theorem duty_copy (c : Dev nD) (i : Fin 8) : (0 : Fin 3) ∈ (plan m).duties ((c : Thread nD τ), SemLoc.dma (copyS i)) 0 :=
  (plan_duties m c (.copy i)).symm ▸ Finset.mem_singleton_self _
theorem pay_send (c : Dev nD) (j : Fin 3) :
    (plan m).payload ((c : Thread nD τ), SemLoc.dma (sendS j)) 0 0 = cPts c c (shares3 fullShare j) (gathered m) :=
  plan_payload m c (.send j) 0
theorem pay_recv (c : Dev nD) (j : Fin 3) :
    (plan m).payload ((c : Thread nD τ), SemLoc.dma (recvS j)) 0 0 = cPts c (bwd c j) fullShare (gathered m) :=
  plan_payload m c (.recv j) 0
theorem pay_copy (c : Dev nD) (i : Fin 8) :
    (plan m).payload ((c : Thread nD τ), SemLoc.dma (copyS i)) 0 0 = iprop(vPts c i (rows m c) ∗ xPts m c i) :=
  plan_payload m c (.copy i) 0

/-- Every chunk's copy counts the same, -/
theorem chunk_credit (i : Fin 8) : (vPart i).view.dmaCredit = NC := by
  unfold View.dmaCredit; rfl
/-- and so does every slot's transfer. -/
theorem slot_credit (s : Dev nD) : (slotM s).view.dmaCredit = NS := by
  unfold View.dmaCredit; rfl

variable (K : Dev nD × Role → ℕ) (c : Dev nD)

/-! ## The meeting point -/

/-- A signal to the device `j + 1` places on pays its unit there and hands over the slot of this device's buffer which
    that device will fill. -/
theorem runs_signal (j : Fin 3) (n : Dev nD) (hn : n = fwd c j) (s : Sem sig) (hs : s = barS) (a : ℕ) (ha : 1 = a)
    (O O' : CellTallies nD τ sig Unit) (hO : O' = O + tallyAt (kcell (fwd c j, .bar)) () 1)
    {α : Type} {k : PUnit → Prog (TpuEff nD τ sig (Elt F) Λ₀ .tc) α} {Q : α → sProp 𝕄} :
    iprop(records m K ∗ owing c O' ∗ dutyTok ER (kcell (fwd c j, .bar)) 0 j ∗ (∃ f, cPts c (fwd c j) fullShare f))
      ⊢ iprop((owing c O -∗ runs c (k ⟨⟩) Q) -∗ runs c (.op (.semSignal (n : Thread nD τ) s a) k) Q) := by
  subst hn hs ha
  unfold owing
  iintro ⟨#HR, ⟨%W, HO⟩, Ht, Hp⟩ Hk
  iapply (Rounds.wp_signal 𝒱₀ ER (plan m) (c : Thread nD τ) none (dst := (fwd c j : Thread nD τ)) (κ := K (fwd c j, .bar)) (d := j)
      (by rw [show (((fwd c j : Dev nD) : Thread nD τ), SemLoc.reg barS) = kcell (fwd c j, .bar) from rfl, plan_duties]; exact Finset.mem_univ _)
      (plan_amount m (fwd c j) .bar j) () O hO (W := W)) $$ [HO Ht Hp]
  · isplitr; · iapply (records_inv m K (fwd c j, .bar)); iexact HR
    isplitl [HO]; · iexact HO
    isplitl [Ht]; · iexact Ht
    isplitl [Hp]
    · iapply (show iprop(∃ f, cPts c (fwd c j) fullShare f) ⊢ (plan m).payload ((fwd c j : Thread nD τ), SemLoc.reg barS) 0 j
        from Entails.of_eq (by
          rw [show (((fwd c j : Dev nD) : Thread nD τ), SemLoc.reg barS) = kcell (fwd c j, .bar) from rfl, plan_payload]
          rw [payOf_bar, bwd_fwd]))
      iexact Hp
    iapply (records_reached m K (fwd c j, .bar)); iexact HR
  iintro HO
  iapply Hk
  iexists W; iexact HO

/-- A wait for the whole of one of the device's own rounds: all the round's pieces come with it, and the semaphore
    is back at zero for good. -/
theorem runs_wait (r : Role) (a : ℕ) (ha : a = (dutiesOf r).card * amountOf r) (e : TpuEff nD τ sig (Elt F) Λ₀ .tc PUnit)
    (he : ∀ P : PUnit → sProp 𝕄, wpE (defs₀ (F := F)) 𝒱₀ (c : Thread nD τ) none Set.univ e P
      = waitSpec (c : Thread nD τ) Set.univ (roleSem r) a P) (O : CellTallies nD τ sig Unit)
    {α : Type} {k : PUnit → Prog (TpuEff nD τ sig (Elt F) Λ₀ .tc) α} {Q : α → sProp 𝕄} :
    iprop(records m K ∗ MayWait (c : Thread nD τ) (roleSem r) () O ∗ cred (tallyAt (kcell (c, r)) () a) ∗ owing c O
        ∗ atPos ER (kcell (c, r)) 0 ∅ 0)
      ⊢ iprop((owing c O ∗ semVal (kcell (c, r)) 0 ∗ bigSep (dutiesOf r) (payOf m c r) -∗ runs c (k ⟨⟩) Q)
          -∗ runs c (.op e k) Q) := by
  unfold owing
  iintro ⟨#HR, Hmay, Hc, ⟨%W, HO⟩, Hat⟩ Hk
  iapply (Rounds.wp_wait_rest_token 𝒱₀ ER (plan m) (c : Thread nD τ) none (κ := K (c, r)) he (Set.mem_univ _) () (O := O) (W := W)
      (R := 0) (m := 0) (T := ∅) (by rw [Nat.zero_add, ha]; exact (plan_expect m c r).symm)) $$ [Hmay Hc HO Hat]
  · isplitr; · iapply (records_inv m K (c, r)); iexact HR
    isplitl [Hc]; · iexact Hc
    isplitl [HO]; · iexact HO
    isplitl [Hmay]; · iexact Hmay
    iexact Hat
  iintro ⟨HO, Hat, -, Hp⟩
  ihave Hp := (Entails.of_eq (plan_rest m c r)) $$ Hp
  imod (Rounds.cell_close ER (plan m) (Set.mem_univ (K (c, r))) (fun h => h) (R := 0 + 1) (plan_duties_later m (kcell (c, r)))) $$ [Hat] with Hz
  · isplitr; · iapply (records_inv m K (c, r)); iexact HR
    iexact Hat
  iapply Hk
  isplitl [HO]; · iexists _; iexact HO
  isplitl [Hz]; · iexact Hz
  iexact Hp

/-- The wait for the three other devices: from each, the slot of its buffer this device fills. -/
theorem runs_meet (s : Sem sig) (hs : s = barS) (a : ℕ) (ha : a = 3) {k : PUnit → Prog (TpuEff nD τ sig (Elt F) Λ₀ .tc) α} {Q : α → sProp 𝕄} :
    iprop(records m K ∗ levAts L lv ∗ cred (tallyAt (kcell (c, .bar)) () 3) ∗ owing c (owedRecv c 0) ∗ atPos ER (kcell (c, .bar)) 0 ∅ 0)
      ⊢ iprop((owing c (owedRecv c 0) ∗ semVal (kcell (c, .bar)) 0 ∗ (∃ f, cPts (fwd c 0) c fullShare f)
            ∗ (∃ f, cPts (fwd c 1) c fullShare f) ∗ (∃ f, cPts (fwd c 2) c fullShare f) -∗ runs c (k ⟨⟩) Q)
          -∗ runs c (.op (.semWait s a) k) Q) := by
  subst hs ha
  iintro ⟨HR, Hl, Hc, HO, Hat⟩ Hk
  iapply (runs_wait m K c .bar 3 (by decide) _ (wpE_semWait_eq 𝒱₀ (c : Thread nD τ) none Set.univ) (owedRecv c 0)) $$ [HR Hl Hc HO Hat]
  · isplitl [HR]; · iexact HR
    isplitl [Hl]; · iapply (mayWait_owing c .bar (le_refl _)); iexact Hl
    isplitl [Hc]; · iexact Hc
    isplitl [HO] <;> iassumption
  iintro ⟨HO, Hz, Hp⟩
  ihave Hp := (show bigSep (dutiesOf .bar) (payOf m c .bar)
      ⊢ iprop((∃ f, cPts (fwd c 2) c fullShare f) ∗ (∃ f, cPts (fwd c 1) c fullShare f) ∗ (∃ f, cPts (fwd c 0) c fullShare f) : sProp 𝕄)
      from Entails.of_eq (by
        unfold dutiesOf
        rw [bigSep_three, payOf_bar, payOf_bar, payOf_bar, show bwd c 0 = fwd c 2 from bwd_rev c 2, show bwd c 1 = fwd c 1 from bwd_rev c 1, show bwd c 2 = fwd c 0 from bwd_rev c 0])) $$ Hp
  icases Hp with ⟨H2, H1, H0⟩
  iapply Hk
  isplitl [HO]; · iexact HO
  isplitl [Hz]; · iexact Hz
  isplitl [H0]; · iexact H0
  isplitl [H1] <;> iassumption

/-! ## The chunks -/

/-- What chunk `i`'s copy writes into its chunk is the device's rows. -/
theorem copied_eq (i : Fin 8) (f : Vec F S4096x1024 .bf16) :
    (((c : Thread nD τ).loc cc0_scratch1) ↦[rowsSet i]{fullShare} ((vPart i).view.write (Elt F) f ((xPart i).view.read (Elt F) (rows m c)) Finset.univ) : sProp 𝕄)
      = vPts c i (rows m c) := by
  unfold vPts
  refine pointsTo_congr fun x hx => ?_
  have hread : (xPart i).view.read (Elt F) (rows m c) = (vPart i).view.read (Elt F) (rows m c) := rfl
  rw [hread, View.write_read_eq_piecewise]
  exact Finset.piecewise_eq_of_mem _ _ _ (by rw [View.setOn_univ, vPart_set]; exact hx)

/-- A whole buffer's view covers exactly the elements asked for. -/
theorem whole_setOn {κ : Kind} (b : Ref sig κ) (I : Finset b.ty.shape.Idx) : (View.whole b : View sig κ _ _ _).setOn I = I :=
  Finset.map_refl

/-- Starting chunk `i`'s copy gives up the chunk of the rows and of the copy, and earns the credit to wait with. -/
theorem runs_copy (i : Fin 8) (X : Memref sig .tc .hbm S512x1024 .bf16) (hX : X = xPart i) (V : Memref sig .tc .vmem S512x1024 .bf16)
    (hV : V = vPart i) (s : DmaSem sig) (hs : s = copyS i) {h1 : X.view.WordExact} {h2 : V.view.WordExact}
    {h3 : DmaTarget.Typed (nD := nD) (τ := τ) (p := .tc) .hbm (.dma s) (.here V)}
    {α : Type} {k : PUnit → Prog (TpuEff nD τ sig (Elt F) Λ₀ .tc) α} {Q : α → sProp 𝕄} :
    iprop(records m K ∗ xPts m c i ∗ (∃ f, vPts c i f) ∗ dutyTok ER (kcell (c, .copy i)) 0 0)
      ⊢ iprop((cred (tallyAt (kcell (c, .copy i)) () NC) -∗ runs c (k ⟨⟩) Q)
          -∗ runs c (.op (.enqueueDma X (.here V) (.dma s) h1 h2 h3) k) Q) := by
  subst hX hV hs
  iintro ⟨#HR, Hx, ⟨%f, Hv⟩, Ht⟩ Hk
  iapply (Rounds.wp_copy_pointsTo 𝒱₀ ER (plan m) (c : Thread nD τ) none (src := xPart i) (dst := vPart i) (sem := SemLoc.dma (copyS i))
      (κ := K (c, .copy i)) (r := 0) (d := 0) (q := fullShare) (fs := rows m c) (fd := f) (duty_copy m c i)
      () NC (chunk_credit i) (plan_amount m c (.copy i) 0)
      (by
        rw [pay_copy, xPart_set, vPart_set]
        exact sep_mono_left (Entails.of_eq (copied_eq m c i f)))) $$ [Hx Hv Ht]
  · isplitr; · iapply (records_inv m K (c, .copy i)); iexact HR
    rw [xPart_set, vPart_set]
    unfold vPts xPts
    isplitl [Hx]; · iexact Hx
    isplitl [Hv]; · iexact Hv
    isplitl [Ht]; · iexact Ht
    iapply (records_reached m K (c, .copy i)); iexact HR
  iexact Hk

/-- Waiting for chunk `i`'s copy brings both chunks back, the copy filled with the device's rows. -/
theorem runs_copied (i : Fin 8) (X : Memref sig .tc .hbm S512x1024 .bf16) (V : Memref sig .tc .vmem S512x1024 .bf16)
    (hV : V = vPart i) (s : DmaSem sig) (hs : s = copyS i) {h1 : X.view.WordExact} {h2 : V.view.WordExact}
    {α : Type} {k : PUnit → Prog (TpuEff nD τ sig (Elt F) Λ₀ .tc) α} {Q : α → sProp 𝕄} :
    iprop(records m K ∗ levAts L lv ∗ cred (tallyAt (kcell (c, .copy i)) () NC) ∗ owing c (owedRecv c 0)
        ∗ atPos ER (kcell (c, .copy i)) 0 ∅ 0)
      ⊢ iprop((owing c (owedRecv c 0) ∗ semVal (kcell (c, .copy i)) 0 ∗ vPts c i (rows m c) ∗ xPts m c i -∗ runs c (k ⟨⟩) Q)
          -∗ runs c (.op (.waitDma2 s X V h1 h2) k) Q) := by
  subst hV hs
  iintro ⟨HR, Hl, Hc, HO, Hat⟩ Hk
  iapply (runs_wait m K c (.copy i) NC (Nat.one_mul NC).symm _
      (fun P => (wpE_waitDma2_eq 𝒱₀ (c : Thread nD τ) none Set.univ P).trans (by rw [chunk_credit i]; rfl)) (owedRecv c 0)) $$ [HR Hl Hc HO Hat]
  · isplitl [HR]; · iexact HR
    isplitl [Hl]; · iapply (mayWait_owing c (.copy i) (Nat.zero_le _)); iexact Hl
    isplitl [Hc]; · iexact Hc
    isplitl [HO] <;> iassumption
  iintro ⟨HO, Hz, Hp⟩
  ihave Hp := (show bigSep (dutiesOf (.copy i)) (payOf m c (.copy i)) ⊢ iprop(vPts c i (rows m c) ∗ xPts m c i : sProp 𝕄)
      from Entails.of_eq (by unfold dutiesOf; rw [bigSep_singleton]; rfl)) $$ Hp
  icases Hp with ⟨Hv, Hx⟩
  iapply Hk
  isplitl [HO]; · iexact HO
  isplitl [Hz]; · iexact Hz
  isplitl [Hv] <;> iassumption

/-- Reading chunk `i` of the filled copy yields that chunk of the device's rows. -/
theorem runs_read_chunk (i : Fin 8) (r : Rect S4096x1024) (hr : r = rowsR i) {h : vM.view.LoadsAt r.toLoadRect}
    {α : Type} {k : Vec F r.shape .bf16 → Prog (TpuEff nD τ sig (Elt F) Λ₀ .tc) α} {Q : α → sProp 𝕄} :
    vPts c i (rows m c)
      ⊢ iprop((vPts c i (rows m c) -∗ runs c (k (vM.view.readAt (Elt F) r.toLoadRect (rows m c))) Q)
          -∗ runs c (.op (.load vM r.toLoadRect h) k) Q) := by
  subst hr
  exact wp_load 𝒱₀ (c : Thread nD τ) none Set.univ (m := vM) (r := (rowsR i).toLoadRect) (S := rowsSet i) (f := rows m c)
    (Finset.Subset.trans (Finset.subset_of_eq (whole_setOn cc0_scratch1 _)) (Finset.Subset.refl _))

/-! ## The slots -/

/-- Reading slot `s` of the device's buffer once it is filled yields device `s`'s row. -/
theorem runs_read_slot (s : Dev nD) (q : PosShare TreeShare) (f : Vec F S4x1x1024 .bf16) (off : Fin 3 → ℕ) (hoff : off = ![s.val, 0, 0])
    (hin : ∀ a, off a + S1x1x1024.size a ≤ S4x1x1024.size a) {h : cM.view.LoadsAt (Rect.unit (s := S4x1x1024) off S1x1x1024.size hin).toLoadRect}
    {α : Type} {k : Vec F S1x1x1024 .bf16 → Prog (TpuEff nD τ sig (Elt F) Λ₀ .tc) α} {Q : α → sProp 𝕄} :
    cPts c s q f
      ⊢ iprop((cPts c s q f -∗ runs c (k (cM.view.readAt (Elt F) (slotR s).toLoadRect f)) Q)
          -∗ runs c (.op (.load cM (Rect.unit (s := S4x1x1024) off S1x1x1024.size hin).toLoadRect h) k) Q) := by
  subst hoff
  exact wp_load 𝒱₀ (c : Thread nD τ) none Set.univ (m := cM) (r := (slotR s).toLoadRect) (S := slotSet s) (f := f)
    (Finset.Subset.trans (Finset.subset_of_eq (whole_setOn cc0_scratch0 _)) (Finset.Subset.refl _))

/-- Writing its own row to its own slot makes the slot what it is in the gathered buffer. -/
theorem runs_write_slot (f : Vec F S4x1x1024 .bf16) (off : Fin 3 → ℕ) (hoff : off = ![c.val, 0, 0])
    (hin : ∀ a, off a + S1x1x1024.size a ≤ S4x1x1024.size a) (w : Vec F S1x1x1024 .bf16) (hw : w = part m c)
    {h : (cM.access (Rect.unit (s := S4x1x1024) off S1x1x1024.size hin)).Stores Finset.univ} {h' : (Finset.univ : Finset S1x1x1024.Idx) = Finset.univ
      ∨ ∀ a, (Rect.unit (s := S4x1x1024) off S1x1x1024.size hin).stride a = 1}
    {α : Type} {k : PUnit → Prog (TpuEff nD τ sig (Elt F) Λ₀ .tc) α} {Q : α → sProp 𝕄} :
    cPts c c fullShare f
      ⊢ iprop((cPts c c fullShare (gathered m) -∗ runs c (k ⟨⟩) Q)
          -∗ runs c (.op (.store cM (Rect.unit (s := S4x1x1024) off S1x1x1024.size hin) w Finset.univ h h') k) Q) := by
  subst hoff hw
  have hset : (cM.access (slotR c)).setOn Finset.univ = slotSet c := View.set_slice_whole cc0_scratch0 (slotR c)
  have hres : (((c : Thread nD τ).loc cc0_scratch0) ↦[slotSet c]{fullShare} ((cM.access (slotR c)).write (Elt F) f (part m c) Finset.univ) : sProp 𝕄)
      = cPts c c fullShare (gathered m) := by
    unfold cPts
    refine pointsTo_congr fun x hx => ?_
    rw [← read_gathered m c]
    show (cM.access (slotR c)).write (Elt F) f ((cM.access (slotR c)).read (Elt F) (gathered m)) Finset.univ x = _
    rw [View.write_read_eq_piecewise]
    exact Finset.piecewise_eq_of_mem _ _ _ (hset.symm ▸ hx)
  rw [← hres]
  exact wp_store 𝒱₀ (c : Thread nD τ) none Set.univ (m := cM) (r := slotR c) (Mk := Finset.univ) (S := slotSet c) (f := f)
    (by rw [hset])

/-- What a transfer of slot `s` writes into a buffer's slot `s` is the gathered row. -/
theorem sent_eq (c' s : Dev nD) (f : Vec F S4x1x1024 .bf16) :
    (((c' : Thread nD τ).loc cc0_scratch0) ↦[slotSet s]{fullShare} ((slotM s).view.write (Elt F) f ((slotM s).view.read (Elt F) (gathered m)) Finset.univ) : sProp 𝕄)
      = cPts c' s fullShare (gathered m) := by
  unfold cPts
  refine pointsTo_congr fun x hx => ?_
  rw [View.write_read_eq_piecewise]
  exact Finset.piecewise_eq_of_mem _ _ _ (by rw [View.setOn_univ, slotM_set]; exact hx)

/-- Sending its slot to the device `j + 1` places on spends a third of the slot and that device's slot of the same
    number, and pays the arrival owed there. -/
theorem runs_send (j : Fin 3) (n : Dev nD) (hn : n = fwd c j) (M M' : Memref sig .tc .vmem S1x1024 .bf16) (hM : M = slotM c) (hM' : M' = slotM c)
    (s s' : DmaSem sig) (hs : s = sendS j) (hs' : s' = recvS j) (O O' : CellTallies nD τ sig Unit)
    (hO : O' = O + tallyAt (kcell (fwd c j, .recv j)) () NS)
    {hsc : (M' : Memref sig (Dev.tc n : Thread nD τ).2.kind .vmem S1x1024 .bf16).view.ref.isScScratch = false}
    {h1 : M.view.WordExact} {h2 : M'.view.WordExact}
    {h3 : DmaTarget.Typed .vmem (.dma s') (.remote (p := .tc) (Dev.tc n : Thread nD τ) M' (.dma s) hsc)}
    {α : Type} {k : PUnit → Prog (TpuEff nD τ sig (Elt F) Λ₀ .tc) α} {Q : α → sProp 𝕄} :
    iprop(records m K ∗ cPts c c (shares3 fullShare j) (gathered m) ∗ (∃ f, cPts (fwd c j) c fullShare f) ∗ owing c O'
        ∗ dutyTok ER (kcell (c, .send j)) 0 0 ∗ dutyTok ER (kcell (fwd c j, .recv j)) 0 0)
      ⊢ iprop((cred (tallyAt (kcell (c, .send j)) () NS) ∗ owing c O -∗ runs c (k ⟨⟩) Q)
          -∗ runs c (.op (.enqueueDma M (.remote (Dev.tc n : Thread nD τ) M' (.dma s) hsc) (.dma s') h1 h2 h3) k) Q) := by
  subst hn hM hM' hs hs'
  unfold owing
  iintro ⟨#HR, Hs, ⟨%f, Hd⟩, ⟨%W, HO⟩, Ht, Ht'⟩ Hk
  iapply (Rounds.wp_send_pointsTo 𝒱₀ ER (plan m) (c : Thread nD τ) none (c' := (fwd c j : Thread nD τ)) (src := slotM c) (dst := slotM c)
      (sS := SemLoc.dma (sendS j)) (sem := SemLoc.dma (recvS j)) (κ₁ := K (c, .send j)) (κ₂ := K (fwd c j, .recv j))
      (r₁ := 0) (r₂ := 0) (d₁ := 0) (d₂ := 0) (q := shares3 fullShare j) (fs := gathered m) (fd := f)
      (duty_send m c j) (duty_recv m (fwd c j) j)
      () () NS (slot_credit c) (plan_amount m c (.send j) 0) (plan_amount m (fwd c j) (.recv j) 0) O hO (W := W)
      (by rw [pay_send, slotM_set]; exact BI.Entails.refl _)
      (by rw [pay_recv, bwd_fwd, slotM_set]; exact Entails.of_eq (sent_eq m (fwd c j) c f))) $$ [Hs Hd HO Ht Ht']
  · isplitr; · iapply (records_inv m K (c, .send j)); iexact HR
    isplitr; · iapply (records_inv m K (fwd c j, .recv j)); iexact HR
    rw [slotM_set]
    unfold cPts
    isplitl [Hs]; · iexact Hs
    isplitl [Hd]; · iexact Hd
    isplitl [HO]; · iexact HO
    isplitl [Ht]; · iexact Ht
    isplitr; · iapply (records_reached m K (c, .send j)); iexact HR
    isplitl [Ht']; · iexact Ht'
    iapply (records_reached m K (fwd c j, .recv j)); iexact HR
  iintro ⟨Hc, HO⟩
  iapply Hk
  isplitl [Hc]; · iexact Hc
  iexists W; iexact HO

/-- Waiting for the arrival from the device `j + 1` places back brings that device's slot, filled. -/
theorem runs_arrived (j : Fin 3) (M M' : Memref sig .tc .vmem S1x1024 .bf16) (s' : Dev nD) (hM : M' = slotM s') (s : DmaSem sig) (hs : s = recvS j)
    {h1 : M.view.WordExact} {h2 : M'.view.WordExact} {α : Type} {k : PUnit → Prog (TpuEff nD τ sig (Elt F) Λ₀ .tc) α} {Q : α → sProp 𝕄} :
    iprop(records m K ∗ cred (tallyAt (kcell (c, .recv j)) () NS) ∗ owing c 0 ∗ atPos ER (kcell (c, .recv j)) 0 ∅ 0)
      ⊢ iprop((owing c 0 ∗ semVal (kcell (c, .recv j)) 0 ∗ cPts c (bwd c j) fullShare (gathered m) -∗ runs c (k ⟨⟩) Q)
          -∗ runs c (.op (.waitDma2 s M M' h1 h2) k) Q) := by
  subst hM hs
  iintro ⟨HR, Hc, HO, Hat⟩ Hk
  iapply (runs_wait m K c (.recv j) NS (Nat.one_mul NS).symm _
      (fun P => (wpE_waitDma2_eq 𝒱₀ (c : Thread nD τ) none Set.univ P).trans (by rw [slot_credit]; rfl)) 0) $$ [HR Hc HO Hat]
  · isplitl [HR]; · iexact HR
    isplitr; · rw [MayWait_zero]; iempintro
    isplitl [Hc]; · iexact Hc
    isplitl [HO] <;> iassumption
  iintro ⟨HO, Hz, Hp⟩
  ihave Hp := (show bigSep (dutiesOf (.recv j)) (payOf m c (.recv j)) ⊢ (cPts c (bwd c j) fullShare (gathered m) : sProp 𝕄)
      from Entails.of_eq (by unfold dutiesOf; rw [bigSep_singleton]; rfl)) $$ Hp
  iapply Hk
  isplitl [HO]; · iexact HO
  isplitl [Hz] <;> iassumption

/-- Waiting for the `j`-th transfer to have left brings its third of the slot back. -/
theorem runs_left (j : Fin 3) (M M' : Memref sig .tc .vmem S1x1024 .bf16) (hM : M' = slotM c) (s : DmaSem sig) (hs : s = sendS j)
    {h1 : M.view.WordExact} {h2 : M'.view.WordExact} {α : Type} {k : PUnit → Prog (TpuEff nD τ sig (Elt F) Λ₀ .tc) α} {Q : α → sProp 𝕄} :
    iprop(records m K ∗ cred (tallyAt (kcell (c, .send j)) () NS) ∗ owing c 0 ∗ atPos ER (kcell (c, .send j)) 0 ∅ 0)
      ⊢ iprop((owing c 0 ∗ semVal (kcell (c, .send j)) 0 ∗ cPts c c (shares3 fullShare j) (gathered m) -∗ runs c (k ⟨⟩) Q)
          -∗ runs c (.op (.waitDma2 s M M' h1 h2) k) Q) := by
  subst hM hs
  iintro ⟨HR, Hc, HO, Hat⟩ Hk
  iapply (runs_wait m K c (.send j) NS (Nat.one_mul NS).symm _
      (fun P => (wpE_waitDma2_eq 𝒱₀ (c : Thread nD τ) none Set.univ P).trans (by rw [slot_credit]; rfl)) 0) $$ [HR Hc HO Hat]
  · isplitl [HR]; · iexact HR
    isplitr; · rw [MayWait_zero]; iempintro
    isplitl [Hc]; · iexact Hc
    isplitl [HO] <;> iassumption
  iintro ⟨HO, Hz, Hp⟩
  ihave Hp := (show bigSep (dutiesOf (.send j)) (payOf m c (.send j)) ⊢ (cPts c c (shares3 fullShare j) (gathered m) : sProp 𝕄)
      from Entails.of_eq (by unfold dutiesOf; rw [bigSep_singleton]; rfl)) $$ Hp
  iapply Hk
  isplitl [HO]; · iexact HO
  isplitl [Hz] <;> iassumption

end Cert.ColSum

end
-- ==== Proof.ColSum.Parts.lean ====
/-
# The column-sum all-reduce: the body, part by part

The kernel's body is printed in eleven parts. Each theorem here runs one of them: from what the part uses up to what it
leaves behind, with the values it hands to the next part.
-/
module

public import proofs.«01_k».proof.Proof.ColSum.Steps

@[expose] public section

noncomputable section

namespace Cert.ColSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (m : (ℓ : Loc nD τ sig) → Buf (Elt F) ℓ)

/-! ## What a device holds at each stage -/

/-- What every device knows throughout: the promises about every semaphore, and the order of waiting. -/
def world (K : Dev nD × Role → ℕ) : sProp 𝕄 := iprop(records m K ∗ levAts L lv)
instance world_persistent (K : Dev nD × Role → ℕ) : BI.Persistent (world m K) := by unfold world; infer_instance

/-- Chunk `i` before its copy starts, -/
def ready (c : Dev nD) (i : Fin 8) : sProp 𝕄 :=
  iprop(xPts m c i ∗ (∃ f, vPts c i f) ∗ dutyTok ER (kcell (c, .copy i)) 0 0 ∗ atPos ER (kcell (c, .copy i)) 0 ∅ 0)
/-- while it is under way, -/
def pending (c : Dev nD) (i : Fin 8) : sProp 𝕄 :=
  iprop(cred (tallyAt (kcell (c, .copy i)) () NC) ∗ atPos ER (kcell (c, .copy i)) 0 ∅ 0)
/-- and after it. -/
def landed (c : Dev nD) (i : Fin 8) : sProp 𝕄 :=
  iprop(semVal (kcell (c, .copy i)) 0 ∗ vPts c i (rows m c) ∗ xPts m c i)

/-- The `j`-th transfer before it starts, -/
def unsent (c : Dev nD) (j : Fin 3) : sProp 𝕄 :=
  iprop(dutyTok ER (kcell (c, .send j)) 0 0 ∗ dutyTok ER (kcell (fwd c j, .recv j)) 0 0 ∗ atPos ER (kcell (c, .send j)) 0 ∅ 0)
/-- while it is under way, -/
def sending (c : Dev nD) (j : Fin 3) : sProp 𝕄 :=
  iprop(cred (tallyAt (kcell (c, .send j)) () NS) ∗ atPos ER (kcell (c, .send j)) 0 ∅ 0)
/-- and after it. -/
def left (c : Dev nD) (j : Fin 3) : sProp 𝕄 :=
  iprop(semVal (kcell (c, .send j)) 0 ∗ cPts c c (shares3 fullShare j) (gathered m))

/-- The `j`-th arrival before it, -/
def awaited (c : Dev nD) (j : Fin 3) : sProp 𝕄 :=
  iprop(cred (tallyAt (kcell (c, .recv j)) () NS) ∗ atPos ER (kcell (c, .recv j)) 0 ∅ 0)
/-- and after it. -/
def arrived (c : Dev nD) (j : Fin 3) : sProp 𝕄 :=
  iprop(semVal (kcell (c, .recv j)) 0 ∗ cPts c (bwd c j) fullShare (gathered m))

/-- A third of the device's own slot, filled. -/
abbrev third (c : Dev nD) (j : Fin 3) : sProp 𝕄 := cPts c c (shares3 fullShare j) (gathered m)

/-- The slot for device `s` of device `c`'s buffer, holding anything. -/
def slot (c s : Dev nD) : sProp 𝕄 := iprop(∃ f, cPts c s fullShare f)

/-- The token for one unit at the meeting point of the device `j + 1` places on. -/
abbrev meetTok (c : Dev nD) (j : Fin 3) : sProp 𝕄 := dutyTok ER (kcell (fwd c j, .bar)) 0 j

/-! ## The rules over these -/

section Rules

variable (K : Dev nD × Role → ℕ) (c : Dev nD)

/-- Nothing left to run. -/
theorem runs_ret {α : Type} {a : α} {Q : α → sProp 𝕄} : Q a ⊢ runs c (Prog.ret a) Q := by
  unfold runs
  rw [wp_ret]
  iintro H
  imodintro
  iexact H

/-- A signal. -/
theorem do_signal (j : Fin 3) (n : Dev nD) (hn : n = fwd c j) (s : Sem sig) (hs : s = barS) (a : ℕ) (ha : 1 = a)
    (O O' : CellTallies nD τ sig Unit) (hO : O' = O + tallyAt (kcell (fwd c j, .bar)) () 1)
    {α : Type} {k : PUnit → Prog (TpuEff nD τ sig (Elt F) Λ₀ .tc) α} {Q : α → sProp 𝕄} :
    iprop(world m K ∗ owing c O' ∗ meetTok c j ∗ slot c (fwd c j))
      ⊢ iprop((owing c O -∗ runs c (k ⟨⟩) Q) -∗ runs c (.op (.semSignal (n : Thread nD τ) s a) k) Q) := by
  unfold world slot
  iintro ⟨⟨HR, -⟩, HO, Ht, Hs⟩
  iapply (runs_signal m K c j n hn s hs a ha O O' hO)
  isplitl [HR]; · iexact HR
  isplitl [HO]; · iexact HO
  isplitl [Ht] <;> iassumption

/-- A chunk's copy starts. -/
theorem do_copy (i : Fin 8) (X : Memref sig .tc .hbm S512x1024 .bf16) (hX : X = xPart i) (V : Memref sig .tc .vmem S512x1024 .bf16)
    (hV : V = vPart i) (s : DmaSem sig) (hs : s = copyS i) {h1 : X.view.WordExact} {h2 : V.view.WordExact}
    {h3 : DmaTarget.Typed (nD := nD) (τ := τ) (p := .tc) .hbm (.dma s) (.here V)}
    {α : Type} {k : PUnit → Prog (TpuEff nD τ sig (Elt F) Λ₀ .tc) α} {Q : α → sProp 𝕄} :
    iprop(world m K ∗ ready m c i)
      ⊢ iprop((pending c i -∗ runs c (k ⟨⟩) Q) -∗ runs c (.op (.enqueueDma X (.here V) (.dma s) h1 h2 h3) k) Q) := by
  unfold world ready pending
  iintro ⟨⟨HR, -⟩, Hx, Hv, Ht, Hat⟩ Hk
  iapply (runs_copy m K c i X hX V hV s hs) $$ [HR Hx Hv Ht]
  · isplitl [HR]; · iexact HR
    isplitl [Hx]; · iexact Hx
    isplitl [Hv] <;> iassumption
  iintro Hc
  iapply Hk
  isplitl [Hc] <;> iassumption

/-- A chunk's copy is waited for and the chunk read. -/
theorem do_take (i : Fin 8) (X : Memref sig .tc .hbm S512x1024 .bf16) (V : Memref sig .tc .vmem S512x1024 .bf16)
    (hV : V = vPart i) (s : DmaSem sig) (hs : s = copyS i) {h1 : X.view.WordExact} {h2 : V.view.WordExact}
    (off : Fin 2 → ℕ) (hoff : off = ![512 * i.val, 0]) (hin : ∀ a, off a + S512x1024.size a ≤ S4096x1024.size a)
    {h3 : vM.view.LoadsAt (Rect.unit (s := S4096x1024) off S512x1024.size hin).toLoadRect}
    {α : Type} {k : Vec F S512x1024 .bf16 → Prog (TpuEff nD τ sig (Elt F) Λ₀ .tc) α} {Q : α → sProp 𝕄} :
    iprop(world m K ∗ pending c i ∗ owing c (owedRecv c 0))
      ⊢ iprop((owing c (owedRecv c 0) ∗ landed m c i -∗ runs c (k (chunk m c i)) Q)
          -∗ runs c (.op (.waitDma2 s X V h1 h2) fun _ =>
              .op (.load vM (Rect.unit (s := S4096x1024) off S512x1024.size hin).toLoadRect h3) k) Q) := by
  subst hoff
  unfold world landed pending
  iintro ⟨⟨HR, Hl⟩, ⟨Hc, Hat⟩, HO⟩ Hk
  iapply (runs_copied m K c i X V hV s hs) $$ [HR Hl Hc Hat HO]
  · isplitl [HR]; · iexact HR
    isplitl [Hl]; · iexact Hl
    isplitl [Hc]; · iexact Hc
    isplitl [HO] <;> iassumption
  iintro ⟨HO, Hz, Hv, Hx⟩
  iapply (runs_read_chunk m c i (rowsR i) rfl) $$ Hv
  iintro Hv
  iapply Hk
  isplitl [HO]; · iexact HO
  isplitl [Hz]; · iexact Hz
  isplitl [Hv] <;> iassumption

/-- The view of one slot, at any offsets that come to it. -/
theorem slot_view (s : Dev nD) (off : Fin 3 → ℕ) (hoff : off = ![s.val, 0, 0]) (hin : ∀ a, off a + S1x1x1024.size a ≤ S4x1x1024.size a) :
    (cM.slice (Rect.unit (s := S4x1x1024) off S1x1x1024.size hin) (fun _ => rfl)).squeeze S1x1024 squeezes_S1x1x1024_S1x1024 = slotM s := by
  subst hoff; rfl

/-- A transfer starts. -/
theorem do_send (j : Fin 3) (n : Dev nD) (hn : n = fwd c j) (M M' : Memref sig .tc .vmem S1x1024 .bf16) (hM : M = slotM c) (hM' : M' = slotM c)
    (s s' : DmaSem sig) (hs : s = sendS j) (hs' : s' = recvS j) (O O' : CellTallies nD τ sig Unit)
    (hO : O' = O + tallyAt (kcell (fwd c j, .recv j)) () NS)
    {hsc : (M' : Memref sig (Dev.tc n : Thread nD τ).2.kind .vmem S1x1024 .bf16).view.ref.isScScratch = false}
    {h1 : M.view.WordExact} {h2 : M'.view.WordExact}
    {h3 : DmaTarget.Typed .vmem (.dma s') (.remote (p := .tc) (Dev.tc n : Thread nD τ) M' (.dma s) hsc)}
    {α : Type} {k : PUnit → Prog (TpuEff nD τ sig (Elt F) Λ₀ .tc) α} {Q : α → sProp 𝕄} :
    iprop(world m K ∗ owing c O' ∗ unsent c j ∗ third m c j ∗ slot (fwd c j) c)
      ⊢ iprop((owing c O ∗ sending c j -∗ runs c (k ⟨⟩) Q)
          -∗ runs c (.op (.enqueueDma M (.remote (Dev.tc n : Thread nD τ) M' (.dma s) hsc) (.dma s') h1 h2 h3) k) Q) := by
  unfold world slot unsent sending
  iintro ⟨⟨HR, -⟩, HO, ⟨Ht, Ht', Hat⟩, Hs, Hd⟩ Hk
  iapply (runs_send m K c j n hn M M' hM hM' s s' hs hs' O O' hO) $$ [HR HO Ht Ht' Hs Hd]
  · isplitl [HR]; · iexact HR
    isplitl [Hs]; · iexact Hs
    isplitl [Hd]; · iexact Hd
    isplitl [HO]; · iexact HO
    isplitl [Ht] <;> iassumption
  iintro ⟨Hc, HO⟩
  iapply Hk
  isplitl [HO]; · iexact HO
  isplitl [Hc] <;> iassumption

/-- An arrival is waited for and its slot read. -/
theorem do_collect (j : Fin 3) (M M' : Memref sig .tc .vmem S1x1024 .bf16) (hM : M' = slotM (bwd c j)) (s : DmaSem sig) (hs : s = recvS j)
    {h1 : M.view.WordExact} {h2 : M'.view.WordExact}
    (off : Fin 3 → ℕ) (hoff : off = ![(bwd c j).val, 0, 0]) (hin : ∀ a, off a + S1x1x1024.size a ≤ S4x1x1024.size a)
    {h3 : cM.view.LoadsAt (Rect.unit (s := S4x1x1024) off S1x1x1024.size hin).toLoadRect}
    {α : Type} {k : Vec F S1x1x1024 .bf16 → Prog (TpuEff nD τ sig (Elt F) Λ₀ .tc) α} {Q : α → sProp 𝕄} :
    iprop(world m K ∗ awaited c j ∗ owing c 0)
      ⊢ iprop((owing c 0 ∗ arrived m c j -∗ runs c (k (part m (bwd c j))) Q)
          -∗ runs c (.op (.waitDma2 s M M' h1 h2) fun _ =>
              .op (.load cM (Rect.unit (s := S4x1x1024) off S1x1x1024.size hin).toLoadRect h3) k) Q) := by
  unfold world awaited arrived
  iintro ⟨⟨HR, -⟩, ⟨Hc, Hat⟩, HO⟩ Hk
  iapply (runs_arrived m K c j M M' (bwd c j) hM s hs) $$ [HR Hc Hat HO]
  · isplitl [HR]; · iexact HR
    isplitl [Hc]; · iexact Hc
    isplitl [HO] <;> iassumption
  iintro ⟨HO, Hz, Hp⟩
  iapply (runs_read_slot c (bwd c j) fullShare (gathered m) off hoff hin) $$ Hp
  rw [read_gathered]
  iintro Hp
  iapply Hk
  isplitl [HO]; · iexact HO
  isplitl [Hz] <;> iassumption

/-- A transfer's departure is waited for. -/
theorem do_release (j : Fin 3) (M M' : Memref sig .tc .vmem S1x1024 .bf16) (hM : M' = slotM c) (s : DmaSem sig) (hs : s = sendS j)
    {h1 : M.view.WordExact} {h2 : M'.view.WordExact}
    {α : Type} {k : PUnit → Prog (TpuEff nD τ sig (Elt F) Λ₀ .tc) α} {Q : α → sProp 𝕄} :
    iprop(world m K ∗ sending c j ∗ owing c 0)
      ⊢ iprop((owing c 0 ∗ left m c j -∗ runs c (k ⟨⟩) Q) -∗ runs c (.op (.waitDma2 s M M' h1 h2) k) Q) := by
  unfold world sending left
  iintro ⟨⟨HR, -⟩, ⟨Hc, Hat⟩, HO⟩ Hk
  iapply (runs_left m K c j M M' hM s hs) $$ [HR Hc Hat HO]
  · isplitl [HR]; · iexact HR
    isplitl [Hc]; · iexact Hc
    isplitl [HO] <;> iassumption
  iintro ⟨HO, Hz, Hp⟩
  iapply Hk
  isplitl [HO]; · iexact HO
  isplitl [Hz] <;> iassumption

/-- The whole result is written. -/
theorem do_write_out (g w : Vec F S1x1024 .bf16) (hin : ∀ a, (![0, 0] : Fin 2 → ℕ) a + S1x1024.size a ≤ S1x1024.size a)
    {h : (oM.access (Rect.unit (s := S1x1024) ![0, 0] S1x1024.size hin)).Stores Finset.univ}
    {h' : (Finset.univ : Finset S1x1024.Idx) = Finset.univ ∨ ∀ a, (Rect.unit (s := S1x1024) ![0, 0] S1x1024.size hin).stride a = 1}
    {α : Type} {k : PUnit → Prog (TpuEff nD τ sig (Elt F) Λ₀ .tc) α} {Q : α → sProp 𝕄} :
    ((c : Thread nD τ).loc cc0_stg0_0 ↦{fullShare} g)
      ⊢ iprop((((c : Thread nD τ).loc cc0_stg0_0 ↦{fullShare} w) -∗ runs c (k ⟨⟩) Q)
          -∗ runs c (.op (.store oM (Rect.unit (s := S1x1024) ![0, 0] S1x1024.size hin) w Finset.univ h h') k) Q) := by
  have hres : (((c : Thread nD τ).loc cc0_stg0_0) ↦{fullShare}
        ((oM.access (Rect.unit (s := S1x1024) ![0, 0] S1x1024.size hin)).write (Elt F) g w Finset.univ) : sProp 𝕄)
      = (((c : Thread nD τ).loc cc0_stg0_0) ↦{fullShare} w) :=
    congrArg (fun f => (((c : Thread nD τ).loc cc0_stg0_0) ↦{fullShare} f : sProp 𝕄))
      (Memref.write_access_unit_zero_univ (Elt F) cc0_stg0_0 (by decide) hin g w)
  rw [← hres]
  exact wp_store 𝒱₀ (c : Thread nD τ) none Set.univ (m := oM) (r := Rect.unit (s := S1x1024) ![0, 0] S1x1024.size hin)
    (Mk := Finset.univ) (S := Finset.univ) (f := g) (Finset.subset_univ _)

end Rules

/-! ## The parts -/

section Parts

variable (K : Dev nD × Role → ℕ) (c : Dev nD)

/-- Part one: the signals to the next two devices. -/
theorem part1_runs {Q : _ → sProp 𝕄} :
    iprop(world m K ∗ owing c (owedBar c 0) ∗ (meetTok c 0 ∗ slot c (fwd c 0)) ∗ (meetTok c 1 ∗ slot c (fwd c 1))
        ∗ (∀ v2 v30 c4 v31, owing c (owedBar c 2) -∗ Q ⟨c, v2, SemArray.scalar (sig.barrier 0 rfl), v30, c4, v31⟩))
      ⊢ runs c (k0_part1 (F := F) xM (Memref.isWhole_whole _) oM (Memref.isWhole_whole _) cM (Memref.isWhole_whole _) vM (Memref.isWhole_whole _)
          cc0_scratch2 cc0_scratch3 cc0_scratch4) Q := by
  simp only [k0_part1_eq_skeleton]; unfold k0_part1_skel
  simp only [semSignalWord, Prog.lift, Prog.bind_op, Prog.bind_ret, Prog.pure_eq_ret, wp_deviceId]
  iintro ⟨#HW, HO, ⟨Ht0, Hs0⟩, ⟨Ht1, Hs1⟩, Hk⟩
  iapply (do_signal m K c 0 _ (dev1_eq c) _ rfl _ rfl (owedBar c 1) (owedBar c 0) rfl) $$ [HO Ht0 Hs0]
  · isplitr; · iexact HW
    isplitl [HO]; · iexact HO
    isplitl [Ht0] <;> iassumption
  iintro HO
  iapply (do_signal m K c 1 _ (dev2_eq c) _ rfl _ rfl (owedBar c 2) (owedBar c 1) rfl) $$ [HO Ht1 Hs1]
  · isplitr; · iexact HW
    isplitl [HO]; · iexact HO
    isplitl [Ht1] <;> iassumption
  iintro HO
  iapply (runs_ret c)
  iapply Hk; iexact HO

/-- Part two: the last signal, and the copies of the first four chunks. -/
theorem part2_runs (v30 c4 : BitVec 32) (v31 : BitVec 1) {Q : PUnit → sProp 𝕄} :
    iprop(world m K ∗ owing c (owedBar c 2) ∗ (meetTok c 2 ∗ slot c (fwd c 2)) ∗ (ready m c 0 ∗ ready m c 1 ∗ ready m c 2 ∗ ready m c 3)
        ∗ (owing c (owedRecv c 0) ∗ (pending c 0 ∗ pending c 1 ∗ pending c 2 ∗ pending c 3) -∗ Q ⟨⟩))
      ⊢ runs c (k0_part2 (F := F) xM (Memref.isWhole_whole _) oM (Memref.isWhole_whole _) cM (Memref.isWhole_whole _) vM (Memref.isWhole_whole _)
          cc0_scratch2 cc0_scratch3 cc0_scratch4 c (SemArray.scalar (sig.barrier 0 rfl)) v30 c4 v31) Q := by
  simp only [k0_part2_eq_skeleton]; unfold k0_part2_skel
  simp only [semSignalWord, Prog.lift, Prog.bind_op, Prog.bind_ret, Prog.pure_eq_ret]
  iintro ⟨#HW, HO, ⟨Ht, Hs⟩, ⟨H0, H1, H2, H3⟩, Hk⟩
  iapply (do_signal m K c 2 _ (dev3_eq c) _ rfl _ rfl (owedRecv c 0) (owedBar c 2) rfl) $$ [HO Ht Hs]
  · isplitr; · iexact HW
    isplitl [HO]; · iexact HO
    isplitl [Ht] <;> iassumption
  iintro HO
  iapply (do_copy m K c 0 _ rfl _ rfl _ rfl) $$ [H0]
  · isplitr <;> iassumption
  iintro H0
  iapply (do_copy m K c 1 _ rfl _ rfl _ rfl) $$ [H1]
  · isplitr <;> iassumption
  iintro H1
  iapply (do_copy m K c 2 _ rfl _ rfl _ rfl) $$ [H2]
  · isplitr <;> iassumption
  iintro H2
  iapply (do_copy m K c 3 _ rfl _ rfl _ rfl) $$ [H3]
  · isplitr <;> iassumption
  iintro H3
  iapply (runs_ret c)
  iapply Hk
  isplitl [HO]; · iexact HO
  isplitl [H0]; · iexact H0
  isplitl [H1]; · iexact H1
  isplitl [H2] <;> iassumption

/-- Part three: the copies of the last four chunks, and the first chunk summed. -/
theorem part3_runs {Q : _ → sProp 𝕄} :
    iprop(world m K ∗ owing c (owedRecv c 0) ∗ (ready m c 4 ∗ ready m c 5 ∗ ready m c 6 ∗ ready m c 7) ∗ pending c 0
        ∗ (owing c (owedRecv c 0) ∗ (pending c 4 ∗ pending c 5 ∗ pending c 6 ∗ pending c 7) ∗ landed m c 0
            -∗ Q ⟨k0_pay1 (F := F), k0_pay2 (chunk m c 0)⟩))
      ⊢ runs c (k0_part3 (F := F) xM (Memref.isWhole_whole _) oM (Memref.isWhole_whole _) cM (Memref.isWhole_whole _) vM (Memref.isWhole_whole _)
          cc0_scratch2 cc0_scratch3 cc0_scratch4) Q := by
  simp only [k0_part3_eq_skeleton]; unfold k0_part3_skel
  simp only [Prog.lift, Prog.bind_op, Prog.bind_ret, Prog.pure_eq_ret]
  iintro ⟨#HW, HO, ⟨H4, H5, H6, H7⟩, H0, Hk⟩
  iapply (do_copy m K c 4 _ rfl _ rfl _ rfl) $$ [H4]
  · isplitr <;> iassumption
  iintro H4
  iapply (do_copy m K c 5 _ rfl _ rfl _ rfl) $$ [H5]
  · isplitr <;> iassumption
  iintro H5
  iapply (do_copy m K c 6 _ rfl _ rfl _ rfl) $$ [H6]
  · isplitr <;> iassumption
  iintro H6
  iapply (do_copy m K c 7 _ rfl _ rfl _ rfl) $$ [H7]
  · isplitr <;> iassumption
  iintro H7
  iapply (do_take m K c 0 _ _ rfl _ rfl _ rfl _) $$ [HO H0]
  · isplitr; · iexact HW
    isplitl [H0] <;> iassumption
  iintro ⟨HO, H0⟩
  iapply (runs_ret c)
  iapply Hk
  isplitl [HO]; · iexact HO
  isplitl [H4 H5 H6 H7]
  · isplitl [H4]; · iexact H4
    isplitl [H5]; · iexact H5
    isplitl [H6] <;> iassumption
  iexact H0

/-- Part four: the next three chunks. -/
theorem part4_runs (v75 v85 : FVec F S1x1024 .f32) {Q : _ → sProp 𝕄} :
    iprop(world m K ∗ owing c (owedRecv c 0) ∗ (pending c 1 ∗ pending c 2 ∗ pending c 3)
        ∗ (owing c (owedRecv c 0) ∗ (landed m c 1 ∗ landed m c 2 ∗ landed m c 3)
            -∗ Q ⟨k0_pay3 v75 v85 (chunk m c 1) (chunk m c 2), k0_pay4 (chunk m c 3)⟩))
      ⊢ runs c (k0_part4 (F := F) xM (Memref.isWhole_whole _) oM (Memref.isWhole_whole _) cM (Memref.isWhole_whole _) vM (Memref.isWhole_whole _)
          cc0_scratch2 cc0_scratch3 cc0_scratch4 v75 v85) Q := by
  simp only [k0_part4_eq_skeleton]; unfold k0_part4_skel
  simp only [Prog.lift, Prog.bind_op, Prog.bind_ret, Prog.pure_eq_ret]
  iintro ⟨#HW, HO, ⟨H1, H2, H3⟩, Hk⟩
  iapply (do_take m K c 1 _ _ rfl _ rfl _ rfl _) $$ [HO H1]
  · isplitr; · iexact HW
    isplitl [H1] <;> iassumption
  iintro ⟨HO, H1⟩
  iapply (do_take m K c 2 _ _ rfl _ rfl _ rfl _) $$ [HO H2]
  · isplitr; · iexact HW
    isplitl [H2] <;> iassumption
  iintro ⟨HO, H2⟩
  iapply (do_take m K c 3 _ _ rfl _ rfl _ rfl _) $$ [HO H3]
  · isplitr; · iexact HW
    isplitl [H3] <;> iassumption
  iintro ⟨HO, H3⟩
  iapply (runs_ret c)
  iapply Hk
  isplitl [HO]; · iexact HO
  isplitl [H1]; · iexact H1
  isplitl [H2] <;> iassumption

/-- Part five: the next three. -/
theorem part5_runs (v108 v118 : FVec F S1x1024 .f32) {Q : _ → sProp 𝕄} :
    iprop(world m K ∗ owing c (owedRecv c 0) ∗ (pending c 4 ∗ pending c 5 ∗ pending c 6)
        ∗ (owing c (owedRecv c 0) ∗ (landed m c 4 ∗ landed m c 5 ∗ landed m c 6)
            -∗ Q ⟨k0_pay5 v108 v118 (chunk m c 4) (chunk m c 5), k0_pay6 (chunk m c 6)⟩))
      ⊢ runs c (k0_part5 (F := F) xM (Memref.isWhole_whole _) oM (Memref.isWhole_whole _) cM (Memref.isWhole_whole _) vM (Memref.isWhole_whole _)
          cc0_scratch2 cc0_scratch3 cc0_scratch4 v108 v118) Q := by
  simp only [k0_part5_eq_skeleton]; unfold k0_part5_skel
  simp only [Prog.lift, Prog.bind_op, Prog.bind_ret, Prog.pure_eq_ret]
  iintro ⟨#HW, HO, ⟨H1, H2, H3⟩, Hk⟩
  iapply (do_take m K c 4 _ _ rfl _ rfl _ rfl _) $$ [HO H1]
  · isplitr; · iexact HW
    isplitl [H1] <;> iassumption
  iintro ⟨HO, H1⟩
  iapply (do_take m K c 5 _ _ rfl _ rfl _ rfl _) $$ [HO H2]
  · isplitr; · iexact HW
    isplitl [H2] <;> iassumption
  iintro ⟨HO, H2⟩
  iapply (do_take m K c 6 _ _ rfl _ rfl _ rfl _) $$ [HO H3]
  · isplitr; · iexact HW
    isplitl [H3] <;> iassumption
  iintro ⟨HO, H3⟩
  iapply (runs_ret c)
  iapply Hk
  isplitl [HO]; · iexact HO
  isplitl [H1]; · iexact H1
  isplitl [H2] <;> iassumption

/-- Part six: the last chunk, the device's row written to its slot, and the wait for the other devices. -/
theorem part6_runs (v2 : BitVec 32) {Q : FVec F S1x1024 .bf16 → sProp 𝕄} :
    iprop(world m K ∗ owing c (owedRecv c 0) ∗ pending c 7 ∗ slot c c
        ∗ (cred (tallyAt (kcell (c, .bar)) () 3) ∗ atPos ER (kcell (c, .bar)) 0 ∅ 0)
        ∗ (owing c (owedRecv c 0) ∗ landed m c 7 ∗ cPts c c fullShare (gathered m) ∗ semVal (kcell (c, .bar)) 0
            ∗ (slot (fwd c 0) c ∗ slot (fwd c 1) c ∗ slot (fwd c 2) c)
            -∗ Q (k0_pay7 (acc m c) (k0_pay6 (chunk m c 6)) (chunk m c 7))))
      ⊢ runs c (k0_part6 (F := F) xM (Memref.isWhole_whole _) oM (Memref.isWhole_whole _) cM (Memref.isWhole_whole _) vM (Memref.isWhole_whole _)
          cc0_scratch2 cc0_scratch3 cc0_scratch4 c v2 (SemArray.scalar (sig.barrier 0 rfl)) (acc m c) (k0_pay6 (chunk m c 6))) Q := by
  simp only [k0_part6_eq_skeleton]; unfold k0_part6_skel
  simp only [semWaitWord, Prog.lift, Prog.bind_op, Prog.bind_ret, Prog.pure_eq_ret]
  unfold slot
  iintro ⟨#HW, HO, H7, ⟨%f, Hs⟩, ⟨Hc, Hat⟩, Hk⟩
  iapply (do_take m K c 7 _ _ rfl _ rfl _ rfl _) $$ [HO H7]
  · isplitr; · iexact HW
    isplitl [H7] <;> iassumption
  iintro ⟨HO, H7⟩
  iapply (runs_read_slot c c fullShare f _ (off1_eq c) _) $$ Hs
  iintro Hs
  iapply (runs_write_slot m c f _ (off1_eq c) _ _ rfl) $$ Hs
  iintro Hs
  unfold world
  icases HW with ⟨#HR, #HL⟩
  iapply (runs_meet m K c _ rfl _ rfl) $$ [HO Hc Hat]
  · isplitr; · iexact HR
    isplitr; · iexact HL
    isplitl [Hc]; · iexact Hc
    isplitl [HO] <;> iassumption
  iintro ⟨HO, Hz, Hd0, Hd1, Hd2⟩
  iapply (runs_ret c)
  iapply Hk
  isplitl [HO]; · iexact HO
  isplitl [H7]; · iexact H7
  isplitl [Hs]; · iexact Hs
  isplitl [Hz]; · iexact Hz
  isplitl [Hd0]; · iexact Hd0
  isplitl [Hd1] <;> iassumption

/-- Part seven: the transfers to the next two devices. -/
theorem part7_runs (v2 : BitVec 32) {Q : _ → sProp 𝕄} :
    iprop(world m K ∗ owing c (owedRecv c 0) ∗ (unsent c 0 ∗ third m c 0 ∗ slot (fwd c 0) c) ∗ (unsent c 1 ∗ third m c 1 ∗ slot (fwd c 1) c)
        ∗ (∀ r, owing c (owedRecv c 2) ∗ sending c 0 ∗ sending c 1 -∗ Q r))
      ⊢ runs c (k0_part7 (F := F) xM (Memref.isWhole_whole _) oM (Memref.isWhole_whole _) cM (Memref.isWhole_whole _) vM (Memref.isWhole_whole _)
          cc0_scratch2 cc0_scratch3 cc0_scratch4 c v2) Q := by
  simp only [k0_part7_eq_skeleton]; unfold k0_part7_skel
  simp only [Prog.lift, Prog.bind_op, Prog.bind_ret, Prog.pure_eq_ret]
  iintro ⟨#HW, HO, ⟨Hu0, Ht0, Hs0⟩, ⟨Hu1, Ht1, Hs1⟩, Hk⟩
  iapply (do_send m K c 0 _ (dev4_eq c) _ _ (slot_view c _ (off2_eq c) _) (slot_view c _ (off2_eq c) _) _ _ rfl rfl
      (owedRecv c 1) (owedRecv c 0) rfl) $$ [HO Hu0 Ht0 Hs0]
  · isplitr; · iexact HW
    isplitl [HO]; · iexact HO
    isplitl [Hu0]; · iexact Hu0
    isplitl [Ht0] <;> iassumption
  iintro ⟨HO, H0⟩
  iapply (do_send m K c 1 _ (dev5_eq c) _ _ (slot_view c _ (off2_eq c) _) (slot_view c _ (off2_eq c) _) _ _ rfl rfl
      (owedRecv c 2) (owedRecv c 1) rfl) $$ [HO Hu1 Ht1 Hs1]
  · isplitr; · iexact HW
    isplitl [HO]; · iexact HO
    isplitl [Hu1]; · iexact Hu1
    isplitl [Ht1] <;> iassumption
  iintro ⟨HO, H1⟩
  iapply (runs_ret c)
  iapply Hk
  isplitl [HO]; · iexact HO
  isplitl [H0] <;> iassumption

/-- Part eight: the last transfer; nothing is owed any more. -/
theorem part8_runs (v2 v213 v214 : BitVec 32) (v215 v216 v217 : BitVec 1) {Q : _ → sProp 𝕄} :
    iprop(world m K ∗ owing c (owedRecv c 2) ∗ (unsent c 2 ∗ third m c 2 ∗ slot (fwd c 2) c)
        ∗ (∀ r, owing c 0 ∗ sending c 2 -∗ Q r))
      ⊢ runs c (k0_part8 (F := F) xM (Memref.isWhole_whole _) oM (Memref.isWhole_whole _) cM (Memref.isWhole_whole _) vM (Memref.isWhole_whole _)
          cc0_scratch2 cc0_scratch3 cc0_scratch4 c v2 v213 v214 v215 v216 v217) Q := by
  simp only [k0_part8_eq_skeleton]; unfold k0_part8_skel
  simp only [Prog.lift, Prog.bind_op, Prog.bind_ret, Prog.pure_eq_ret]
  iintro ⟨#HW, HO, ⟨Hu0, Ht0, Hs0⟩, Hk⟩
  iapply (do_send m K c 2 _ (dev6_eq c) _ _ (slot_view c _ (off2_eq c) _) (slot_view c _ (off2_eq c) _) _ _ rfl rfl
      0 (owedRecv c 2) (zero_add _).symm) $$ [HO Hu0 Ht0 Hs0]
  · isplitr; · iexact HW
    isplitl [HO]; · iexact HO
    isplitl [Hu0]; · iexact Hu0
    isplitl [Ht0] <;> iassumption
  iintro ⟨HO, H0⟩
  iapply (runs_ret c)
  iapply Hk
  isplitl [HO] <;> iassumption

/-- Part nine: the row of the device one place back. -/
theorem part9_runs (v2 : BitVec 32) (v164 : FVec F S1x1024 .bf16) (v242 v253 : BitVec 32) {Q : _ → sProp 𝕄} :
    iprop(world m K ∗ owing c 0 ∗ awaited c 0
        ∗ (∀ a b, owing c 0 ∗ arrived m c 0 -∗ Q ⟨k0_pay9 v164 (part m (bwd c 0)), a, b⟩))
      ⊢ runs c (k0_part9 (F := F) xM (Memref.isWhole_whole _) oM (Memref.isWhole_whole _) cM (Memref.isWhole_whole _) vM (Memref.isWhole_whole _)
          cc0_scratch2 cc0_scratch3 cc0_scratch4 c v2 v164 v242 v253) Q := by
  simp only [k0_part9_eq_skeleton]; unfold k0_part9_skel
  simp only [Prog.lift, Prog.bind_op, Prog.bind_ret, Prog.pure_eq_ret]
  iintro ⟨#HW, HO, Hw, Hk⟩
  iapply (do_collect m K c 0 _ _ (slot_view (bwd c 0) _ (off3_eq c 0) _) _ rfl _ (off4_eq c 0) _) $$ [HO Hw]
  · isplitr; · iexact HW
    isplitl [Hw] <;> iassumption
  iintro H
  iapply (runs_ret c)
  iapply Hk; iexact H

/-- Part ten: the row of the device three places back. -/
theorem part10_runs (v2 : BitVec 32) (v265 : FVec F S1x1024 .bf16) (v276 v287 : BitVec 32) {Q : _ → sProp 𝕄} :
    iprop(world m K ∗ owing c 0 ∗ awaited c 2
        ∗ (∀ a b d, owing c 0 ∗ arrived m c 2 -∗ Q ⟨k0_pay10 v265 (part m (bwd c 2)), a, b, d⟩))
      ⊢ runs c (k0_part10 (F := F) xM (Memref.isWhole_whole _) oM (Memref.isWhole_whole _) cM (Memref.isWhole_whole _) vM (Memref.isWhole_whole _)
          cc0_scratch2 cc0_scratch3 cc0_scratch4 c v2 v265 v276 v287) Q := by
  simp only [k0_part10_eq_skeleton]; unfold k0_part10_skel
  simp only [Prog.lift, Prog.bind_op, Prog.bind_ret, Prog.pure_eq_ret]
  iintro ⟨#HW, HO, Hw, Hk⟩
  iapply (do_collect m K c 2 _ _ (slot_view (bwd c 2) _ (off3_eq c 2) _) _ rfl _ (off4_eq c 2) _) $$ [HO Hw]
  · isplitr; · iexact HW
    isplitl [Hw] <;> iassumption
  iintro H
  iapply (runs_ret c)
  iapply Hk; iexact H

/-- Part eleven: the row of the device two places back, the result written, and the departures of two transfers. -/
theorem part11_runs (v299 : FVec F S1x1024 .bf16) (v310 v321 c1 : BitVec 32) (g : Vec F S1x1024 .bf16) {Q : PUnit → sProp 𝕄} :
    iprop(world m K ∗ owing c 0 ∗ awaited c 1 ∗ ((c : Thread nD τ).loc cc0_stg0_0 ↦{fullShare} g) ∗ sending c 0 ∗ sending c 1
        ∗ (owing c 0 ∗ arrived m c 1 ∗ ((c : Thread nD τ).loc cc0_stg0_0 ↦{fullShare} k0_pay11 v299 (part m (bwd c 1)))
            ∗ left m c 0 ∗ left m c 1 -∗ Q ⟨⟩))
      ⊢ runs c (k0_part11 (F := F) xM (Memref.isWhole_whole _) oM (Memref.isWhole_whole _) cM (Memref.isWhole_whole _) vM (Memref.isWhole_whole _)
          cc0_scratch2 cc0_scratch3 cc0_scratch4 c v299 v310 v321 c1) Q := by
  simp only [k0_part11_eq_skeleton]; unfold k0_part11_skel
  simp only [Prog.lift, Prog.bind_op, Prog.bind_ret, Prog.pure_eq_ret]
  iintro ⟨#HW, HO, Hw, Hout, H0, H1, Hk⟩
  iapply (do_collect m K c 1 _ _ (slot_view (bwd c 1) _ (off3_eq c 1) _) _ rfl _ (off4_eq c 1) _) $$ [HO Hw]
  · isplitr; · iexact HW
    isplitl [Hw] <;> iassumption
  iintro ⟨HO, Ha⟩
  iapply (wp_load 𝒱₀ (c : Thread nD τ) none Set.univ (m := oM) (Finset.subset_univ _)) $$ Hout; iintro Hout
  iapply (do_write_out c g _ _) $$ Hout; iintro Hout
  iapply (do_release m K c 0 _ _ (slot_view c _ (off2_eq c) _) _ rfl) $$ [HO H0]
  · isplitr; · iexact HW
    isplitl [H0] <;> iassumption
  iintro ⟨HO, H0⟩
  iapply (do_release m K c 1 _ _ (slot_view c _ (off2_eq c) _) _ rfl) $$ [HO H1]
  · isplitr; · iexact HW
    isplitl [H1] <;> iassumption
  iintro ⟨HO, H1⟩
  iapply (runs_ret c)
  iapply Hk
  isplitl [HO]; · iexact HO
  isplitl [Ha]; · iexact Ha
  isplitl [Hout]; · iexact Hout
  isplitl [H0] <;> iassumption

end Parts

end Cert.ColSum

end
-- ==== Proof.ColSum.Body.lean ====
/-
# The column-sum all-reduce: the whole body

The parts run one after another, and what each leaves is what the next ones use. The run of the body takes a device from
what the launch gives it to what it must hand back: the argument untouched, every semaphore at zero, the total in place.
-/
module

public import proofs.«01_k».proof.Proof.ColSum.Parts

@[expose] public section

noncomputable section

namespace Cert.ColSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The run of the body -/

section Run

variable (K : Dev nD × Role → ℕ) (c : Dev nD)

/-- One program after another. -/
theorem runs_bind {α β : Type} {p : Prog (TpuEff nD τ sig (Elt F) Λ₀ .tc) α} {k : α → Prog (TpuEff nD τ sig (Elt F) Λ₀ .tc) β}
    {Q : β → sProp 𝕄} : runs c p (fun a => runs c (k a) Q) ⊢ runs c (p >>= k) Q := by
  unfold runs
  rw [wp_bind]

/-- What the eleven parts leave, with the last departure still to wait for. -/
theorem parts_run (g : Vec F S1x1024 .bf16) {Q : PUnit → sProp 𝕄} :
    iprop(world m K ∗ owing c (owed₀ c) ∗ ((meetTok c 0 ∗ slot c (fwd c 0)) ∗ (meetTok c 1 ∗ slot c (fwd c 1)) ∗ (meetTok c 2 ∗ slot c (fwd c 2)))
        ∗ slot c c
        ∗ (ready m c 0 ∗ ready m c 1 ∗ ready m c 2 ∗ ready m c 3 ∗ ready m c 4 ∗ ready m c 5 ∗ ready m c 6 ∗ ready m c 7)
        ∗ (unsent c 0 ∗ unsent c 1 ∗ unsent c 2) ∗ (awaited c 0 ∗ awaited c 1 ∗ awaited c 2)
        ∗ (cred (tallyAt (kcell (c, .bar)) () 3) ∗ atPos ER (kcell (c, .bar)) 0 ∅ 0)
        ∗ ((c : Thread nD τ).loc cc0_stg0_0 ↦{fullShare} g)
        ∗ (owing c 0 ∗ ((c : Thread nD τ).loc cc0_stg0_0 ↦{fullShare} total m c)
            ∗ (landed m c 0 ∗ landed m c 1 ∗ landed m c 2 ∗ landed m c 3 ∗ landed m c 4 ∗ landed m c 5 ∗ landed m c 6 ∗ landed m c 7)
            ∗ (left m c 0 ∗ left m c 1 ∗ left m c 2) ∗ (arrived m c 0 ∗ arrived m c 1 ∗ arrived m c 2) ∗ semVal (kcell (c, .bar)) 0
            -∗ Q ⟨⟩))
      ⊢ runs c (cc0_body (F := F) xM (Memref.isWhole_whole _) oM (Memref.isWhole_whole _) cM (Memref.isWhole_whole _) vM (Memref.isWhole_whole _)
          cc0_scratch2 cc0_scratch3 cc0_scratch4) Q := by
  simp only [cc0_body_eq_skeleton]; unfold cc0_body_skel
  iintro ⟨#HW, HO, ⟨Hb0, Hb1, Hb2⟩, Hs, ⟨H0, H1, H2, H3, H4, H5, H6, H7⟩, ⟨Hu0, Hu1, Hu2⟩, ⟨Ha0, Ha1, Ha2⟩, Hbar, Hout, Hk⟩
  iapply (runs_bind c)
  iapply (part1_runs m K c)
  isplitr; · iexact HW
  isplitl [HO]; · iexact HO
  isplitl [Hb0]; · iexact Hb0
  isplitl [Hb1]; · iexact Hb1
  iintro %v2 %v30 %c4 %v31 HO
  dsimp only
  iapply (runs_bind c)
  iapply (part2_runs m K c)
  isplitr; · iexact HW
  isplitl [HO]; · iexact HO
  isplitl [Hb2]; · iexact Hb2
  isplitl [H0 H1 H2 H3]
  · isplitl [H0]; · iexact H0
    isplitl [H1]; · iexact H1
    isplitl [H2] <;> iassumption
  iintro ⟨HO, H0, H1, H2, H3⟩
  iapply (runs_bind c)
  iapply (part3_runs m K c)
  isplitr; · iexact HW
  isplitl [HO]; · iexact HO
  isplitl [H4 H5 H6 H7]
  · isplitl [H4]; · iexact H4
    isplitl [H5]; · iexact H5
    isplitl [H6] <;> iassumption
  isplitl [H0]; · iexact H0
  iintro ⟨HO, ⟨H4, H5, H6, H7⟩, H0⟩
  dsimp only
  iapply (runs_bind c)
  iapply (part4_runs m K c)
  isplitr; · iexact HW
  isplitl [HO]; · iexact HO
  isplitl [H1 H2 H3]
  · isplitl [H1]; · iexact H1
    isplitl [H2] <;> iassumption
  iintro ⟨HO, H1, H2, H3⟩
  dsimp only
  iapply (runs_bind c)
  iapply (part5_runs m K c)
  isplitr; · iexact HW
  isplitl [HO]; · iexact HO
  isplitl [H4 H5 H6]
  · isplitl [H4]; · iexact H4
    isplitl [H5] <;> iassumption
  iintro ⟨HO, H4, H5, H6⟩
  dsimp only
  iapply (runs_bind c)
  iapply (part6_runs m K c)
  isplitr; · iexact HW
  isplitl [HO]; · iexact HO
  isplitl [H7]; · iexact H7
  isplitl [Hs]; · iexact Hs
  isplitl [Hbar]; · iexact Hbar
  iintro ⟨HO, H7, Hs, Hz, Hd0, Hd1, Hd2⟩
  ihave Hs := (show (cPts c c fullShare (gathered m) : sProp 𝕄) ⊢ iprop(third m c 0 ∗ third m c 1 ∗ third m c 2) from (pointsTo_thirds ..).1) $$ Hs
  icases Hs with ⟨Hs0, Hs1, Hs2⟩
  iapply (runs_bind c)
  iapply (part7_runs m K c)
  isplitr; · iexact HW
  isplitl [HO]; · iexact HO
  isplitl [Hu0 Hs0 Hd0]
  · isplitl [Hu0]; · iexact Hu0
    isplitl [Hs0] <;> iassumption
  isplitl [Hu1 Hs1 Hd1]
  · isplitl [Hu1]; · iexact Hu1
    isplitl [Hs1] <;> iassumption
  iintro %r ⟨HO, Hp0, Hp1⟩
  obtain ⟨v213, v214, v215, v216, v217⟩ := r
  dsimp only
  iapply (runs_bind c)
  iapply (part8_runs m K c)
  isplitr; · iexact HW
  isplitl [HO]; · iexact HO
  isplitl [Hu2 Hs2 Hd2]
  · isplitl [Hu2]; · iexact Hu2
    isplitl [Hs2] <;> iassumption
  iintro %r ⟨HO, Hp2⟩
  obtain ⟨v242, v253⟩ := r
  dsimp only
  iapply (runs_bind c)
  iapply (part9_runs m K c)
  isplitr; · iexact HW
  isplitl [HO]; · iexact HO
  isplitl [Ha0]; · iexact Ha0
  iintro %a1 %a2 ⟨HO, Ha0⟩
  dsimp only
  iapply (runs_bind c)
  iapply (part10_runs m K c)
  isplitr; · iexact HW
  isplitl [HO]; · iexact HO
  isplitl [Ha2]; · iexact Ha2
  iintro %b1 %b2 %b3 ⟨HO, Ha2⟩
  dsimp only
  iapply (runs_bind c)
  iapply (part11_runs m K c _ _ _ _ g)
  isplitr; · iexact HW
  isplitl [HO]; · iexact HO
  isplitl [Ha1]; · iexact Ha1
  isplitl [Hout]; · iexact Hout
  isplitl [Hp0]; · iexact Hp0
  isplitl [Hp1]; · iexact Hp1
  iintro ⟨HO, Ha1, Hout, Hl0, Hl1⟩
  simp only [Prog.lift, Prog.bind_op, Prog.bind_ret, Prog.pure_eq_ret]
  iapply (do_release m K c 2 _ _ (slot_view c _ (off2_eq c) _) _ rfl) $$ [HO Hp2]
  · isplitr; · iexact HW
    isplitl [Hp2] <;> iassumption
  iintro ⟨HO, Hl2⟩
  iapply (runs_ret c)
  iapply Hk
  isplitl [HO]; · iexact HO
  isplitl [Hout]; · iexact Hout
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  isplitl [Hl0 Hl1 Hl2]
  · isplitl [Hl0]; · iexact Hl0
    isplitl [Hl1] <;> iassumption
  isplitl [Ha0 Ha1 Ha2]
  · isplitl [Ha0]; · iexact Ha0
    isplitl [Ha1] <;> iassumption
  iexact Hz

end Run

/-! ## What a device starts from, and what it must hand back -/

/-- A family over the roles, kind by kind. -/
theorem bigSep_role (Φ : Role → sProp 𝕄) :
    bigSep Finset.univ Φ = iprop(Φ .bar ∗ (bigSep Finset.univ fun j : Fin 3 => Φ (.send j)) ∗ (bigSep Finset.univ fun j : Fin 3 => Φ (.recv j))
      ∗ bigSep Finset.univ fun i : Fin 8 => Φ (.copy i)) := by
  rw [BI.bigSep_univ_sum, BI.bigSep_univ_sum, BI.bigSep_univ_sum,
    show (bigSep Finset.univ fun a : Unit => Φ (.inl a)) = Φ .bar from (bigSep_univ_eq_bigSepL [()] (by decide) (by decide) _)]
  rfl

/-- The tokens device `c` pays with: one unit at each other device's meeting point, its own departures, the arrivals at
    the other devices, and its own copies. -/
def payToks (c : Dev nD) : sProp 𝕄 :=
  iprop((bigSep Finset.univ fun j : Fin 3 => meetTok c j)
    ∗ (bigSep Finset.univ fun j : Fin 3 => dutyTok ER (kcell (c, .send j)) 0 (0 : Fin 3))
    ∗ (bigSep Finset.univ fun j : Fin 3 => dutyTok ER (kcell (fwd c j, .recv j)) 0 (0 : Fin 3))
    ∗ bigSep Finset.univ fun i : Fin 8 => dutyTok ER (kcell (c, .copy i)) 0 (0 : Fin 3))
/-- What is device `c`'s alone: its place at each of its semaphores, and those tokens. -/
def linear (c : Dev nD) : sProp 𝕄 := iprop((bigSep Finset.univ fun k : Role => atPos ER (kcell (c, k)) 0 ∅ 0) ∗ payToks c)
/-- What the others owe device `c`: three units at its meeting point, and three arrivals. -/
def due (c : Dev nD) : sProp 𝕄 :=
  iprop(cred (tallyAt (kcell (c, .bar)) () 3) ∗ bigSep Finset.univ fun j : Fin 3 => cred (tallyAt (kcell (c, .recv j)) () NS))
/-- What the launch gives device `c` besides its buffers. -/
def start (c : Dev nD) : sProp 𝕄 := iprop((∃ K, records m K ∗ linear c) ∗ due c ∗ levAts L lv)

/-- Some contents of the buffer of partial sums, -/
def someComm (c : Dev nD) : sProp 𝕄 := iprop(∃ f, (c : Thread nD τ).loc cc0_scratch0 ↦{fullShare} f)
/-- some contents of the buffer of rows, -/
def someRows (c : Dev nD) : sProp 𝕄 := iprop(∃ f, (c : Thread nD τ).loc cc0_scratch1 ↦{fullShare} f)
/-- the argument as launched, -/
def argPts (c : Dev nD) : sProp 𝕄 := (c : Thread nD τ).loc main_arg0 ↦{fullShare} rows m c
/-- and every semaphore of device `c` at zero. -/
def zeros (c : Dev nD) : sProp 𝕄 := bigSep Finset.univ fun k : Role => semVal (kcell (c, k)) 0

/-- Before the body, -/
def before (c : Dev nD) : sProp 𝕄 := iprop(start m c ∗ argPts m c ∗ someComm c ∗ someRows c)
/-- and after it. -/
def after (c : Dev nD) : sProp 𝕄 := iprop(zeros c ∗ argPts m c ∗ someComm c ∗ someRows c)

/-- A chunk at some contents. -/
theorem chunk_some (c : Dev nD) (i : Fin 8) (f : Vec F S4096x1024 .bf16) : vPts c i f ⊢ (iprop(∃ f, vPts c i f) : sProp 𝕄) := by
  iintro H
  iexists f; iexact H

/-- The argument, the buffer of rows, and the copies' tokens and places make the eight chunks ready; -/
theorem ready_all (c : Dev nD) :
    iprop(argPts m c ∗ someRows c ∗ (bigSep Finset.univ fun i : Fin 8 => dutyTok ER (kcell (c, .copy i)) 0 (0 : Fin 3))
        ∗ (bigSep Finset.univ fun i : Fin 8 => atPos ER (kcell (c, .copy i)) 0 ∅ 0))
      ⊢ (bigSep Finset.univ (ready m c) : sProp 𝕄) := by
  unfold argPts someRows ready
  rw [x_chunks, bigSep_sep', bigSep_sep', bigSep_sep']
  iintro ⟨Hx, ⟨%f, Hv⟩, Ht, Hat⟩
  isplitl [Hx]; · iexact Hx
  isplitl [Hv]
  · ihave Hv := (Entails.of_eq (v_chunks c f)) $$ Hv
    iapply (show (bigSep Finset.univ fun i => vPts c i f : sProp 𝕄) ⊢ bigSep Finset.univ fun i => iprop(∃ f, vPts c i f) from
      bigSep_mono fun i _ => chunk_some c i f)
    iexact Hv
  isplitl [Ht] <;> iassumption

/-- and the eight chunks copied give all three back. -/
theorem landed_all (c : Dev nD) :
    (bigSep Finset.univ (landed m c) : sProp 𝕄)
      ⊢ iprop((bigSep Finset.univ fun i : Fin 8 => semVal (kcell (c, .copy i)) 0) ∗ someRows c ∗ argPts m c) := by
  unfold argPts someRows landed
  rw [x_chunks, bigSep_sep', bigSep_sep', ← v_chunks]
  iintro ⟨Hz, Hv, Hx⟩
  isplitl [Hz]; · iexact Hz
  isplitl [Hv]
  · iexists (rows m c); iexact Hv
  iexact Hx

/-- The buffer of partial sums is a device's own slot and the three it lends; -/
theorem lend_slots (c : Dev nD) :
    (someComm c : sProp 𝕄) ⊢ iprop(slot c c ∗ slot c (fwd c 0) ∗ slot c (fwd c 1) ∗ slot c (fwd c 2)) := by
  unfold someComm slot
  iintro ⟨%f, H⟩
  ihave H := (Entails.of_eq ((c_slots c f).trans (bigSep_around c _))) $$ H
  icases H with ⟨H, H0, H1, H2⟩
  isplitl [H]; · iexists f; iexact H
  isplitl [H0]; · iexists f; iexact H0
  isplitl [H1]; · iexists f; iexact H1
  iexists f; iexact H2

/-- and its own slot after the three departures with the three arrivals is the buffer again, every departure's and
    arrival's semaphore at zero. -/
theorem slots_back (c : Dev nD) :
    iprop((left m c 0 ∗ left m c 1 ∗ left m c 2) ∗ (arrived m c 0 ∗ arrived m c 1 ∗ arrived m c 2))
      ⊢ (iprop((bigSep Finset.univ fun j : Fin 3 => semVal (kcell (c, .send j)) 0) ∗ (bigSep Finset.univ fun j : Fin 3 => semVal (kcell (c, .recv j)) 0)
          ∗ someComm c) : sProp 𝕄) := by
  unfold left arrived someComm
  rw [bigSep_three, bigSep_three]
  iintro ⟨⟨⟨Z0, H0⟩, ⟨Z1, H1⟩, Z2, H2⟩, ⟨W0, A0⟩, ⟨W1, A1⟩, W2, A2⟩
  ihave H := (show iprop(third m c 0 ∗ third m c 1 ∗ third m c 2) ⊢ (cPts c c fullShare (gathered m) : sProp 𝕄) from (pointsTo_thirds ..).2) $$ [H0 H1 H2]
  · isplitl [H0]; · iexact H0
    isplitl [H1] <;> iassumption
  isplitl [Z0 Z1 Z2]
  · isplitl [Z0]; · iexact Z0
    isplitl [Z1] <;> iassumption
  isplitl [W0 W1 W2]
  · isplitl [W0]; · iexact W0
    isplitl [W1] <;> iassumption
  iexists (gathered m)
  rw [c_slots, bigSep_back c]
  isplitl [H]; · iexact H
  isplitl [A0]; · iexact A0
  isplitl [A1] <;> iassumption

/-- The body takes a device from its start to its end and puts the total into the result's buffer. -/
theorem body_run (c : Dev nD) (g : Vec F S1x1024 .bf16) {Q : PUnit → sProp 𝕄} :
    iprop(before m c ∗ owing c (owed₀ c) ∗ ((c : Thread nD τ).loc cc0_stg0_0 ↦{fullShare} g)
        ∗ (after m c ∗ owing c 0 ∗ ((c : Thread nD τ).loc cc0_stg0_0 ↦{fullShare} total m c) -∗ Q ⟨⟩))
      ⊢ runs c (cc0_body (F := F) xM (Memref.isWhole_whole _) oM (Memref.isWhole_whole _) cM (Memref.isWhole_whole _) vM (Memref.isWhole_whole _)
          cc0_scratch2 cc0_scratch3 cc0_scratch4) Q := by
  unfold before start linear payToks due
  rw [bigSep_role, bigSep_three (fun j => meetTok c j), bigSep_three (fun j => dutyTok ER (kcell (c, .send j)) 0 (0 : Fin 3)),
    bigSep_three (fun j => dutyTok ER (kcell (fwd c j, .recv j)) 0 (0 : Fin 3)), bigSep_three (fun j => cred (tallyAt (kcell (c, .recv j)) () NS)),
    bigSep_three (fun j => atPos ER (kcell (c, .send j)) 0 ∅ 0), bigSep_three (fun j => atPos ER (kcell (c, .recv j)) 0 ∅ 0)]
  iintro ⟨⟨⟨⟨%K, #HR, ⟨Pb, ⟨Ps0, Ps1, Ps2⟩, ⟨Pr0, Pr1, Pr2⟩, Pc⟩, ⟨M0, M1, M2⟩, ⟨S0, S1, S2⟩, ⟨R0, R1, R2⟩, Tc⟩, ⟨Cb, C0, C1, C2⟩, #HL⟩, Hx, Hc, Hv⟩, HO, Ho, Hk⟩
  ihave Hr := (ready_all m c) $$ [Hx Hv Tc Pc]
  · isplitl [Hx]; · iexact Hx
    isplitl [Hv]; · iexact Hv
    isplitl [Tc] <;> iassumption
  ihave Hr := (Entails.of_eq (bigSep_eight (ready m c))) $$ Hr
  ihave Hc := (lend_slots c) $$ Hc
  icases Hc with ⟨L, L0, L1, L2⟩
  iapply (parts_run m K c g)
  unfold unsent awaited world
  isplitr; · isplitr <;> iassumption
  isplitl [HO]; · iexact HO
  isplitl [M0 M1 M2 L0 L1 L2]
  · isplitl [M0 L0]; · isplitl [M0] <;> iassumption
    isplitl [M1 L1]; · isplitl [M1] <;> iassumption
    isplitl [M2] <;> iassumption
  isplitl [L]; · iexact L
  isplitl [Hr]; · iexact Hr
  isplitl [S0 S1 S2 R0 R1 R2 Ps0 Ps1 Ps2]
  · isplitl [S0 R0 Ps0]
    · isplitl [S0]; · iexact S0
      isplitl [R0] <;> iassumption
    isplitl [S1 R1 Ps1]
    · isplitl [S1]; · iexact S1
      isplitl [R1] <;> iassumption
    isplitl [S2]; · iexact S2
    isplitl [R2] <;> iassumption
  isplitl [C0 C1 C2 Pr0 Pr1 Pr2]
  · isplitl [C0 Pr0]; · isplitl [C0] <;> iassumption
    isplitl [C1 Pr1]; · isplitl [C1] <;> iassumption
    isplitl [C2] <;> iassumption
  isplitl [Cb Pb]; · isplitl [Cb] <;> iassumption
  isplitl [Ho]; · iexact Ho
  iintro ⟨HO, Ho, Hl, HL, Ha, Hz⟩
  iapply Hk
  ihave Hl := (Entails.of_eq (bigSep_eight (landed m c)).symm) $$ Hl
  ihave Hl := (landed_all m c) $$ Hl
  icases Hl with ⟨Zc, Hv, Hx⟩
  ihave Hs := (slots_back m c) $$ [HL Ha]
  · isplitl [HL] <;> iassumption
  icases Hs with ⟨Zs, Zr, Hc⟩
  isplitr [HO Ho]
  · unfold after zeros
    rw [bigSep_role]
    isplitl [Hz Zs Zr Zc]
    · isplitl [Hz]; · iexact Hz
      isplitl [Zs]; · iexact Zs
      isplitl [Zr] <;> iassumption
    isplitl [Hx]; · iexact Hx
    isplitl [Hc] <;> iassumption
  isplitl [HO] <;> iassumption

/-! ## The body's obligation at the grid's one point -/

/-- What the run of the grid is about: the result array, the total left for it, what is held before and after the point,
    and what is owed then. -/
def dats (_ : Fin 1) (c : Dev nD) : Dat τ (Elt F) Unit ℕ UU ℕ cfg0 c where
  A w := m ((cfg0.win w).arr.view.loc (c : Thread nD τ))
  after w _ := match w with
    | ⟨0, _⟩ => total m c
  Φ t := match t with
    | ⟨0, _⟩ => before m c
    | ⟨_ + 1, _⟩ => after m c
  q _ := fullShare
  owed t := match t with
    | ⟨0, _⟩ => owed₀ c
    | ⟨_ + 1, _⟩ => 0

/-- A whole buffer held at contents `X`. -/
theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem point_unique (t : Fin cfg0.N) : t = t0_0 := fin_N0 t

/-- What the point starts from, -/
def pointPre (c : Dev nD) : sProp 𝕄 :=
  iprop(before m c ∗ (dats m 0 c).owesAt () t0_0.castSucc
    ∗ (∃ d, ∃ f : Buf (Elt F) ((c : Thread nD τ).loc cc0_stg0_0), ⌜f = (dats m 0 c).before (0 : Fin 1) t0_0 d⌝ ∗ (((c : Thread nD τ).loc cc0_stg0_0) ↦{fullShare} f)))
/-- and what it must end with. -/
def pointPost (c : Dev nD) : sProp 𝕄 :=
  iprop(after m c ∗ (dats m 0 c).owesAt () t0_0.succ
    ∗ (∃ f : Buf (Elt F) ((c : Thread nD τ).loc cc0_stg0_0), ⌜f = total m c⌝ ∗ (((c : Thread nD τ).loc cc0_stg0_0) ↦{fullShare} f)))

/-- The body at the grid's point does what the run of the grid asks of it. -/
theorem body_obligation (c : Dev nD) : BodyObligation (dats (F := F) m 0 c) (defs₀ (F := F)) 𝒱₀ () Set.univ := fun t => by
  rw [point_unique t]
  rw [bigSep_W0, bigSep_W0]
  simp only [owns_eq]
  show pointPre m c ⊢ runs c (cc0_body (F := F) xM (Memref.isWhole_whole _) oM (Memref.isWhole_whole _) cM (Memref.isWhole_whole _) vM (Memref.isWhole_whole _)
          cc0_scratch2 cc0_scratch3 cc0_scratch4) (fun _ => pointPost m c)
  unfold pointPre pointPost Dat.owesAt Pipeline.owesWithin
  iintro ⟨Hb, ⟨%W, -, HO⟩, ⟨%d, %f, -, Ho⟩⟩
  iapply (body_run m c f)
  isplitl [Hb]; · iexact Hb
  isplitl [HO]; · unfold owing; iexists W; iexact HO
  isplitl [Ho]; · iexact Ho
  unfold owing
  iintro ⟨Hb, ⟨%W', HO⟩, Ho⟩
  isplitl [Hb]; · iexact Hb
  isplitl [HO]
  · iexists W'
    isplitr; · ipureintro; exact fun _ _ => Or.inl trivial
    iexact HO
  iexists _; isplitr; · (ipureintro; rfl)
  iexact Ho

end Cert.ColSum

end
-- ==== Proof.ColSum.Launch.lean ====
/-
# The column-sum all-reduce: the launch

Four devices start with every semaphore at zero. Their semaphores are put under the schedule of `Protocol`, the tokens of
that schedule are dealt to the devices that pay with them, and what each device owes the others is matched by what each
is owed. From there the body's run on every device gives the run of the whole program.
-/
module

public import proofs.«01_k».proof.Proof.ColSum.Body
public import Idealize.ShloMosaic.Lib.Pipeline.CollectiveSegs

@[expose] public section

noncomputable section

namespace Cert.ColSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and the tokens -/

/-- The kernel's own semaphores: every role but the meeting point, whose semaphore outlives the kernel. -/
abbrev ownRole (k : Fin 3 ⊕ (Fin 3 ⊕ Fin 8)) : SemLoc sig := roleSem (.inr k)

theorem own_facts : Pipeline.OwnSemFacts cfg0.spec ownRole := by decide

/-- Every device's semaphores. -/
def allCells : Finset (GSem nD τ sig) := Finset.univ.map ⟨kcell, kcell_injective⟩

/-- The tokens of one device's semaphores: three at its meeting point, one at each other. -/
abbrev TokIx : Type := Fin 3 ⊕ (Fin 3 ⊕ (Fin 3 ⊕ Fin 8))
/-- The role a token is at, -/
def tokRole : TokIx → Role
  | .inl _ => .bar
  | .inr r => .inr r
/-- and which contribution there it stands for. -/
def tokDuty : TokIx → Fin 3
  | .inl j => j
  | .inr _ => 0
abbrev tokOf (cx : Dev nD × TokIx) : GSem nD τ sig × ℕ × Fin 3 := (kcell (cx.1, tokRole cx.2), 0, tokDuty cx.2)

theorem tokOf_injective : Function.Injective tokOf := by
  rintro ⟨c, x⟩ ⟨c', x'⟩ h
  have hk := kcell_injective (congrArg Prod.fst h)
  have hd : tokDuty x = tokDuty x' := congrArg (fun y => y.2.2) h
  obtain ⟨rfl, hr⟩ := Prod.mk.inj hk
  rcases x with j | r <;> rcases x' with j' | r'
  · rw [show j = j' from hd]
  · cases hr
  · cases hr
  · rw [show r = r' from Sum.inr.inj hr]

/-- Every device's tokens. -/
def allToks : Finset (GSem nD τ sig × ℕ × Fin 3) := Finset.univ.map ⟨tokOf, tokOf_injective⟩

/-- The ghost state at launch: the grid's own and the schedule's. -/
def u₀ : UU := (initOf (Pipeline.cells cfgs cellOf_inj) (Pipeline.launchToks cfgs cellOf_inj), initOf allCells allToks)

/-- The tokens of device `c`'s own semaphores. -/
def ownToks (c : Dev nD) : sProp 𝕄 :=
  iprop((bigSep Finset.univ fun j : Fin 3 => dutyTok ER (kcell (c, .bar)) 0 j)
    ∗ (bigSep Finset.univ fun j : Fin 3 => dutyTok ER (kcell (c, .send j)) 0 (0 : Fin 3))
    ∗ (bigSep Finset.univ fun j : Fin 3 => dutyTok ER (kcell (c, .recv j)) 0 (0 : Fin 3))
    ∗ bigSep Finset.univ fun i : Fin 8 => dutyTok ER (kcell (c, .copy i)) 0 (0 : Fin 3))

/-- What the ghost state gives device `c`. -/
def given (c : Dev nD) : sProp 𝕄 :=
  iprop((bigSep Finset.univ fun k : Role => roundState ER (plan m) (kcell (c, k)) 0)
    ∗ (bigSep Finset.univ fun k : Role => reached ER (kcell (c, k)) 0)
    ∗ (bigSep Finset.univ fun k : Role => atPos ER (kcell (c, k)) 0 ∅ 0) ∗ ownToks c)

/-- A family over all semaphores is one over the devices and the roles. -/
theorem bigSep_cells (Φ : GSem nD τ sig → sProp 𝕄) :
    bigSep allCells Φ = bigSep Finset.univ fun c : Dev nD => bigSep Finset.univ fun k : Role => Φ (kcell (c, k)) := by
  unfold allCells; rw [bigSep_map, bigSep_univ_prod]; rfl

/-- All tokens, device by device. -/
theorem bigSep_toks :
    bigSep allToks (fun x => (dutyTok ER x.1 x.2.1 x.2.2 : sProp 𝕄)) = bigSep Finset.univ fun c : Dev nD => ownToks c := by
  unfold allToks
  rw [bigSep_map, bigSep_univ_prod]
  refine bigSep_congr fun c _ => ?_
  unfold ownToks
  rw [BI.bigSep_univ_sum, BI.bigSep_univ_sum, BI.bigSep_univ_sum]
  rfl

/-- The schedule's ghost state gives every device its part. -/
theorem given_all : BI.own (ER (initOf allCells allToks)) ⊢ (|==> bigSep Finset.univ (given m) : sProp 𝕄) := by
  iintro H
  imod (Rounds.fund ER (plan m) allCells allToks) $$ H with ⟨Hs, Hr, Ha, Ht⟩
  imodintro
  ihave Hs := (Entails.of_eq (bigSep_cells fun g => roundState ER (plan m) g 0)) $$ Hs
  ihave Hr := (Entails.of_eq (bigSep_cells (F := F) fun g => reached ER g 0)) $$ Hr
  ihave Ha := (Entails.of_eq (bigSep_cells (F := F) fun g => atPos ER g 0 ∅ 0)) $$ Ha
  ihave Ht := (Entails.of_eq (bigSep_toks (F := F))) $$ Ht
  unfold given
  simp only [bigSep_sep']
  isplitl [Hs]; · iexact Hs
  isplitl [Hr]; · iexact Hr
  isplitl [Ha] <;> iassumption

/-- A device's semaphores at zero are the kernel's own and the one that outlives it. -/
theorem zeros_eq (c : Dev nD) :
    (zeros c : sProp 𝕄) = iprop(unscopedSems0 c
      ∗ Pipeline.ownSems0 (Ix := Unit) (Name := ℕ) (U := UU) (Lvl := ℕ) (Val := Elt F) (τ := τ) ownRole c) := by
  have h : (unscopedSems0 c : sProp 𝕄) = semVal (kcell (c, .bar)) 0 := by
    unfold unscopedSems0; rw [bigSep_eq_bigSepL_of_eq [SemLoc.reg barS] (by decide) (by decide)]; rfl
  unfold zeros
  rw [h, BI.bigSep_univ_sum, show (bigSep Finset.univ fun a : Unit => (semVal (kcell (c, Sum.inl a)) 0 : sProp 𝕄)) = semVal (kcell (c, .bar)) 0 from
    (bigSep_univ_eq_bigSepL [()] (by decide) (by decide) _)]
  rfl

/-- One device's semaphores put under the schedule. -/
theorem promised (c : Dev nD) :
    iprop(Pipeline.ownSems0 (Ix := Unit) (Name := ℕ) (U := UU) (Lvl := ℕ) (Val := Elt F) (τ := τ) ownRole c ∗ unscopedSems0 c ∗ given m c)
      ⊢ |={Set.univ}=> iprop((bigSep Finset.univ fun k => iprop(∃ κ : ℕ, cellInv ER (plan m) κ (kcell (c, k))))
          ∗ (bigSep Finset.univ fun k : Role => reached ER (kcell (c, k)) 0)
          ∗ (bigSep Finset.univ fun k : Role => atPos ER (kcell (c, k)) 0 ∅ 0) ∗ ownToks c) := by
  unfold given
  iintro ⟨Ho, Hu, Hs, Hr, Ha, Ht⟩
  ihave Hz := (Entails.of_eq (zeros_eq (F := F) c).symm) $$ [Ho Hu]
  · isplitl [Hu] <;> iassumption
  imod (show iprop(zeros c ∗ bigSep Finset.univ fun k : Role => roundState ER (plan m) (kcell (c, k)) 0)
      ⊢ (|={Set.univ}=> bigSep Finset.univ fun k => iprop(∃ κ : ℕ, cellInv ER (plan m) κ (kcell (c, k))) : sProp 𝕄) from by
        unfold zeros
        rw [← bigSep_sep']
        exact (bigSep_mono fun k _ => (Rounds.body_intro ER (plan m) (kcell (c, k))).trans inv_alloc).trans (bigSep_fupd _ _)) $$ [Hz Hs] with Hi
  · isplitl [Hz] <;> iassumption
  imodintro
  isplitl [Hi]; · iexact Hi
  isplitl [Hr]; · iexact Hr
  isplitl [Ha] <;> iassumption

/-- Dealing around: summed over all devices, the `j`-th item of each is the `j`-th item of the device `j + 1` places on. -/
theorem deal (Ψ : Dev nD → Fin 3 → sProp 𝕄) :
    (bigSep Finset.univ fun c : Dev nD => bigSep Finset.univ fun j : Fin 3 => Ψ c j)
      = bigSep Finset.univ fun c : Dev nD => bigSep Finset.univ fun j : Fin 3 => Ψ (fwd c j) j := by
  rw [BI.bigSep_univ_comm Ψ, BI.bigSep_univ_comm fun (c : Dev nD) (j : Fin 3) => Ψ (fwd c j) j]
  exact bigSep_congr fun j _ => bigSep_univ_equiv (turn j) fun c => Ψ c j

/-- The tokens of every device's own semaphores are the tokens the devices pay with. -/
theorem toks_dealt : (bigSep Finset.univ fun c : Dev nD => (ownToks c : sProp 𝕄)) = bigSep Finset.univ fun c : Dev nD => payToks c := by
  unfold ownToks payToks
  simp only [bigSep_sep']
  rw [deal (F := F) fun c j => dutyTok ER (kcell (c, .bar)) 0 j, deal (F := F) fun c j => dutyTok ER (kcell (c, .recv j)) 0 (0 : Fin 3)]

/-- What the ghost state makes of a device: the records all share, and its own part. -/
def mine (c : Dev nD) : sProp 𝕄 := iprop(∃ K, records m K ∗ linear c)

/-- The promises gathered into the records, and every device's own part beside them. -/
theorem gather :
    (bigSep Finset.univ fun c : Dev nD => iprop((bigSep Finset.univ fun k => iprop(∃ κ : ℕ, cellInv ER (plan m) κ (kcell (c, k))))
          ∗ (bigSep Finset.univ fun k : Role => reached ER (kcell (c, k)) 0)
          ∗ (bigSep Finset.univ fun k : Role => atPos ER (kcell (c, k)) 0 ∅ 0) ∗ ownToks c) : sProp 𝕄)
      ⊢ bigSep Finset.univ (mine m) := by
  rw [bigSep_sep', bigSep_sep', bigSep_sep', toks_dealt,
    ← bigSep_univ_prod (fun ck : Dev nD × Role => iprop(∃ κ : ℕ, cellInv ER (plan m) κ (kcell ck))),
    ← bigSep_univ_prod (fun ck : Dev nD × Role => (reached ER (kcell ck) 0 : sProp 𝕄))]
  iintro ⟨Hi, #Hr, Ha, Ht⟩
  ihave Hi := (BI.bigSep_exists_pi Finset.univ (fun (ck : Dev nD × Role) (κ : ℕ) => (cellInv ER (plan m) κ (kcell ck) : sProp 𝕄))) $$ Hi
  icases Hi with ⟨%K, #Hi⟩
  have hstep (c : Dev nD) : iprop(records m K ∗ linear c) ⊢ mine m c := by
    unfold mine
    iintro H
    iexists K
    iexact H
  iapply (BI.bigSep_with_persistent (R := records m K) (S := Finset.univ) (Φ := linear) (Ψ := mine m) fun c _ => hstep c)
  isplitr
  · unfold records; isplitl; · iexact Hi
    iexact Hr
  · unfold linear
    rw [bigSep_sep']
    isplitl [Ha] <;> iassumption

/-- All devices' semaphores put under the schedule at once. -/
theorem all_promised :
    (bigSep Finset.univ fun c => iprop(Pipeline.ownSems0 (Ix := Unit) (Name := ℕ) (U := UU) (Lvl := ℕ) (Val := Elt F) (τ := τ) ownRole c
        ∗ unscopedSems0 c ∗ given m c) : sProp 𝕄)
      ⊢ |={Set.univ}=> bigSep Finset.univ (mine m) :=
  ((bigSep_mono fun c _ => promised m c).trans (bigSep_fupd _ _)).trans (BI.fupd_mono (gather m))

/-! ## What the devices owe and are owed -/

/-- What all devices owe, by one item each to the device `j + 1` places on, at one semaphore. -/
theorem owed_each (j : Fin 3) (k' k : Role) (n : ℕ) (c : Dev nD) :
    (∑ d : Dev nD, (tallyAt (kcell (fwd d j, k')) () n : CellTallies nD τ sig Unit) (kcell (c, k)) ()) = if k = k' then n else 0 := by
  simp only [tallyAt_apply, kcell_injective.eq_iff, Prod.mk.injEq, and_true]
  by_cases h : k = k'
  · subst h
    have hd (d : Dev nD) : (c = fwd d j) = (d = bwd c j) :=
      propext ⟨fun e => by rw [e, bwd_fwd], fun e => by rw [e, fwd_bwd]⟩
    simp only [and_true, hd, if_true]
    rw [Finset.sum_ite_eq' Finset.univ (bwd c j) fun _ => n, if_pos (Finset.mem_univ _)]
  · simp only [h, and_false, if_false, Finset.sum_const_zero]

/-- What is owed to device `c`'s semaphore of role `k`. -/
def dueAt : Role → ℕ
  | .inl _ => 3
  | .inr (.inr (.inl _)) => NS
  | _ => 0

/-- All that is owed to one semaphore. -/
theorem owed_sum (c : Dev nD) (k : Role) : (∑ d : Dev nD, owed₀ d (kcell (c, k)) ()) = dueAt k := by
  unfold owed₀ owedBar owedRecv
  simp only [Pi.add_apply, Finsupp.add_apply, Finset.sum_add_distrib]
  rw [owed_each, owed_each, owed_each, owed_each, owed_each, owed_each]
  rcases k with _ | j | j | i
  · simp [Role.bar, Role.recv, dueAt]
  · simp [Role.bar, Role.recv, dueAt]
  · fin_cases j <;> simp [Role.bar, Role.recv, dueAt]
  · simp [Role.bar, Role.recv, dueAt]

/-- So every device starts with what it is owed. -/
theorem due_intro (c : Dev nD) : (Pipeline.launchCred owed₀ c : sProp 𝕄) ⊢ due c := by
  have hk (k : Role) : tallyOn (kcell (c, k)) (launchCredit (Pipeline.owing owed₀) 0 (kcell (c, k)))
      = (tallyAt (kcell (c, k)) () (dueAt k) : CellTallies nD τ sig Unit) := by
    unfold tallyAt
    refine congrArg _ (Finsupp.ext fun u => ?_)
    cases u
    rw [Pipeline.launchCredit_owing, Finsupp.single_eq_same, owed_sum]
  have hinj : Function.Injective roleSem := fun k k' h => by rw [← semRole_roleSem k, h, semRole_roleSem]
  have hall : (Pipeline.launchCred owed₀ c : sProp 𝕄) ⊢ bigSep Finset.univ fun k : Role => cred (tallyAt (kcell (c, k)) () (dueAt k)) := by
    unfold Pipeline.launchCred
    refine (BI.bigSep_subset (t := Finset.univ.map ⟨roleSem, hinj⟩) (Finset.subset_univ _)).trans ?_
    rw [bigSep_map]
    exact bigSep_mono fun k _ => Entails.of_eq (congrArg (fun t => (cred t : sProp 𝕄)) (hk k))
  refine hall.trans ?_
  rw [bigSep_role]
  unfold due
  iintro ⟨Hb, -, Hr, -⟩
  isplitl [Hb]; · iexact Hb
  iexact Hr

/-! ## The program -/

/-- The argument as launched is the one buffer outside the kernel that is not the result's. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ mine m c)
      ⊢ |={Set.univ}=> iprop((start m c ∗ argPts m c) ∗ emp) := by
  rw [Pipeline.unscopedRestP_none, show (Pipeline.unscopedRest cfg0.spec c (fun b => m ((c : Thread nD τ).loc b)) : sProp 𝕄) = argPts m c from unscopedRest0_eq c _]
  iintro ⟨Hx, Hl, Hc, -, Hm⟩
  ihave Hd := (due_intro (F := F) c) $$ Hc
  imodintro
  unfold start mine
  isplitl
  · isplitl [Hl Hd Hm]
    · isplitl [Hm]; · iexact Hm
      isplitl [Hd] <;> iassumption
    iexact Hx
  · iempintro

/-- With the kernel's two buffers that is what the body starts from; -/
theorem before_intro (c : Dev nD) :
    iprop((start m c ∗ argPts m c) ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before someComm someRows
  iintro ⟨⟨Hs, Hx⟩, -, Hc, Hv⟩
  isplitl [Hs]; · iexact Hs
  isplitl [Hx]; · iexact Hx
  isplitl [Hc] <;> iassumption

/-- and what it ends with gives the two buffers and the kernel's semaphores back. -/
theorem after_elim (c : Dev nD) :
    (dats m 0 c).Φ (Fin.last cfg0.N) ⊢ iprop((unscopedSems0 c ∗ argPts m c) ∗ Pipeline.ownSems0 ownRole c ∗ Pipeline.scopedRest cfg0.spec c) := by
  rw [show (dats m 0 c).Φ (Fin.last cfg0.N) = after m c from rfl, scopedRest0_eq]
  unfold after
  rw [zeros_eq]
  unfold someComm someRows
  iintro ⟨⟨Hu, Ho⟩, Hx, Hc, Hv⟩
  isplitl [Hu Hx]; · isplitl [Hu] <;> iassumption
  isplitl [Ho]; · iexact Ho
  isplitl [Hc] <;> iassumption

/-- The result array is held whole. -/
theorem share_full (c : Dev nD) (w : Fin cfg0.W) : (dats m 0 c).share w = fullShare := by unfold Dat.share; split <;> rfl

/-- The grid may wait for its own transfers whatever the device owes then. -/
theorem waits (c : Dev nD) : (levAts L lv : sProp 𝕄) ⊢ Pipeline.cellsWaits cfgs (dats m) () 0 c :=
  Pipeline.cellsWaits_intro cfgs (dats m) () 0 c fun w s t =>
    mayWait_out c _ (by fin_cases w <;> fin_cases s <;> rfl) _ (by
      rcases t with ⟨_ | _, ht⟩
      · exact Or.inl rfl
      · exact Or.inr rfl)

/-- The result array at the end. -/
def result (c : Dev nD) (w : Fin cfg0.W) : Buf (Elt F) ((cfg0.win w).arr.view.loc (c : Thread nD τ)) := (dats m 0 c).arrAt w cfg0.N

/-- What is read at the end on device `c`: its unscoped semaphores at zero and the argument as launched. -/
def Final (c : Dev nD) (s : MemSt nD τ sig (Elt F)) : Prop :=
  (∀ sm : SemLoc sig, sm.isScoped .tc = false → s.sem ((c.tc : Thread nD τ), sm) = 0)
    ∧ s.mem ((c : Thread nD τ).loc main_arg0) = rows m c

theorem final_read (c : Dev nD) (s' : Phys nD τ sig (Elt F)) :
    iprop((unscopedSems0 c ∗ argPts m c) ∗ emp ∗ SI s') ⊢ (|={Set.univ}=> iprop(⌜Final m c s'.mem⌝ ∗ SI s') : sProp 𝕄) := by
  iintro ⟨⟨Hu, Hx⟩, -, HSI⟩
  ihave %h := (tcUnscoped_read c s') $$ [Hu HSI]
  · isplitl [Hu] <;> iassumption
  ihave %hx := (SI_pointsTo_agree (st := s') (ℓ := (c : Thread nD τ).loc main_arg0) (I := Finset.univ) (q := fullShare) (f := rows m c)) $$ [Hx HSI]
  · isplitl [HSI]; · iexact HSI
    unfold argPts; iexact Hx
  imodintro
  isplitr
  · ipureintro; exact ⟨h, funext fun i => hx i (Finset.mem_univ i)⟩
  iexact HSI

set_option maxRecDepth 8000 in
/-- On four devices, for any float values, from any memory with every semaphore at zero: every fair execution of the
    program ends, and at its end every device's result array holds what its run of the grid left there, its argument
    is as launched, and every semaphore is at zero. -/
theorem run_main :
    θ_run defs (onTc (τ := τ) (main (F := F))) ⟨m, fun _ => 0, ρ⟩ (fun r =>
      (∀ c : Dev nD, (∀ w, r.2.mem ((cfg0.win w).arr.view.loc (c : Thread nD τ)) = result m c w)
        ∧ r.2.mem ((c : Thread nD τ).loc main_arg0) = rows m c)
      ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m ρ main
    (hmain := fun _ => rfl)
    (hbody := fun c => body_obligation m c) (hne := fun w => by fin_cases w <;> exact Nat.succ_pos _) (harr := arr_whole0) (hstage := stage_whole0)
    (hshare := share_full m) (hdistinct := winFacts0.arr_inj)
    (O₀ := owed₀) (howed₀ := fun _ => rfl) (howedN := fun _ => rfl)
    (L := L) (lv := lv) (hL := L_of_ne) (hwaits := waits m)
    (G := given m) (G' := mine m) (u₀ := u₀)
    (hu₀ := by
      unfold u₀
      iintro Hu
      ihave H := (ownU_pair _ _) $$ Hu
      icases H with ⟨HP, HX⟩
      imod (given_all m) $$ HX with HG
      imodintro
      isplitl [HP] <;> iassumption)
    (hglob := all_promised m)
    (hA := fun _ _ => rfl) (hpf := fun _ k => k.elim0)
    (X := fun c => iprop(start m c ∗ argPts m c)) (Y := fun c => iprop(unscopedSems0 c ∗ argPts m c)) (Z := fun _ => iprop(emp))
    (hX := start_intro m ρ) (hin := before_intro m) (hout := after_elim m)
    (QY := Final m) (hY := final_read m)
    (hQ := fun _ h hs => ⟨fun c => ⟨(h c).1, (h c).2.2.2⟩, sem_eq_zero hs fun c => (h c).2.2.1⟩)

end Cert.ColSum

end
-- ==== Proof.ColSum.Value.lean ====
/-
# The column-sum all-reduce: what it computes

Over the extended reals, where changing a float's format changes nothing and sums may be taken in any order, every
device's result row holds the column sums of the whole matrix, of which the devices hold four blocks of rows. That is
what the reference's one sum over all the rows computes.
-/
module

public import proofs.«01_k».proof.Proof.ColSum.Launch
public import proofs.«01_k».proof.Proof.Gen.ReferenceIdeal
public import Idealize.ShloMosaic.Lib.Pipeline.ValueKit.Geometry
public import Idealize.ShloMosaic.Lib.Pipeline.Value
public import Idealize.ShloMosaic.Lib.Layout
public import Idealize.ShloMosaic.PureOps.Ideal.Laws

@[expose] public section

noncomputable section

namespace Cert.ColSum

open Cert.KernelIdeal Cert.KernelIdeal.Gen
open Idealize.ShloMosaic
open Idealize.ShloMosaic.TcCoe

/-! ## The result array -/

section Result

variable {F : FTy → Type} [FloatOps F] (m : (ℓ : Loc nD τ sig) → Buf (Elt F) ℓ)

/-- The grid has one point, whose block is the whole result array: at the end the array holds the row that the device
    computed. -/
theorem result_eq (c : Dev nD) : result m c (0 : Fin 1) = total m c :=
  (dats m 0 c).arrAt_eq_of_after_last (0 : Fin 1) t0_0 (by decide +kernel) (total m c) (fun j => rfl)

end Result

/-! ## Sums in blocks -/

/-- A sum over `a` blocks of `b` terms each is the sum over all the terms. -/
theorem sum_blocks {M : Type} [AddCommMonoid M] (a b : ℕ) (f : Fin (a * b) → M) :
    ∑ i : Fin a, ∑ r : Fin b, f (finProdFinEquiv (i, r)) = ∑ x : Fin (a * b), f x := by
  rw [← finProdFinEquiv.sum_comp, Fintype.sum_prod_type]

/-- The place of row `r`, column `k` in a matrix of `n` rows. -/
def at2 {n : ℕ} (r : Fin n) (k : Fin 1024) : (⟨2, ![n, 1024]⟩ : Shape).Idx := fun a => match a with
  | ⟨0, _⟩ => r
  | ⟨1, _⟩ => k

/-- The place of column `k` in a row of sums. -/
def at1 (k : Fin 1024) : (⟨1, ![1024]⟩ : Shape).Idx := fun a => match a with
  | ⟨0, _⟩ => k

/-- The sum of column `k` of a matrix of `n` rows. -/
def colSum {n : ℕ} (v : (⟨2, ![n, 1024]⟩ : Shape).Idx → EReal) (k : Fin 1024) : EReal := ∑ r : Fin n, v (at2 r k)

/-! ## The kernel's row -/

/-- The row of column sums of one chunk, as the program lays it out. -/
theorem chunk_row (v : FVec Ideal S512x1024 .f32) (j : S1x1024.Idx) :
    shapeCast S1x1024 (multiReduction (F := Ideal) .add [0] S1024 v 0x00000000#32 reduces_S512x1024_S1024 (.inl rfl) rfl)
      shapeCasts_S1024_S1x1024 j = colSum (n := 512) v (j (1 : Fin 2)) := by
  refine (shapeCast_apply _ _ j (at1 (j (1 : Fin 2))) ?_).trans ?_
  · have h0 : (j (0 : Fin 2)).val < 1 := (j (0 : Fin 2)).isLt
    rw [Shape.rowMajor_val_one, Shape.rowMajor_val_two]
    show (j (1 : Fin 2)).val = (j (0 : Fin 2)).val * 1024 + (j (1 : Fin 2)).val
    omega
  · refine (Ideal.multiReduction_add_single _ _ _ _ _ _).trans (Finset.sum_congr rfl fun r _ => congrArg v ?_)
    funext a
    match a with
    | ⟨0, _⟩ => rfl
    | ⟨1, _⟩ => rfl

section Ideal

variable (m : (ℓ : Loc nD τ sig) → Buf (Elt Ideal) ℓ)

/-- A device's own row is the sum of its eight chunks' rows, -/
theorem own_chunks (c : Dev nD) (j : S1x1024.Idx) :
    own m c j = ∑ i : Fin 8, colSum (n := 512) (chunk m c i) (j (1 : Fin 2)) := by
  have e : own m c j = 0 + colSum (n := 512) (chunk m c 0) (j (1 : Fin 2)) + colSum (n := 512) (chunk m c 1) (j (1 : Fin 2))
      + colSum (n := 512) (chunk m c 2) (j (1 : Fin 2)) + colSum (n := 512) (chunk m c 3) (j (1 : Fin 2))
      + colSum (n := 512) (chunk m c 4) (j (1 : Fin 2)) + colSum (n := 512) (chunk m c 5) (j (1 : Fin 2))
      + colSum (n := 512) (chunk m c 6) (j (1 : Fin 2)) + colSum (n := 512) (chunk m c 7) (j (1 : Fin 2)) := by
    rw [← Ideal.ofBits_zero_f32, ← chunk_row (chunk m c 0) j, ← chunk_row (chunk m c 1) j, ← chunk_row (chunk m c 2) j,
      ← chunk_row (chunk m c 3) j, ← chunk_row (chunk m c 4) j, ← chunk_row (chunk m c 5) j, ← chunk_row (chunk m c 6) j,
      ← chunk_row (chunk m c 7) j]
    rfl
  rw [e, zero_add, Fin.sum_univ_eight]

/-- which is the row of column sums of all its rows. -/
theorem own_rows (c : Dev nD) (j : S1x1024.Idx) : own m c j = colSum (n := 4096) (rows m c) (j (1 : Fin 2)) := by
  rw [own_chunks]
  refine Eq.trans ?_ (sum_blocks 8 512 fun x : Fin (8 * 512) => (rows m c) (at2 (n := 4096) x (j (1 : Fin 2))))
  refine Finset.sum_congr rfl fun i _ => Finset.sum_congr rfl fun r _ => ?_
  show rows m c ((rowsR i).emb (at2 (n := 512) r (j (1 : Fin 2)))) = _
  refine congrArg (rows m c) (funext fun a => ?_)
  match a with
  | ⟨0, _⟩ => exact Fin.ext (by show 512 * i.val + 1 * r.val = r.val + 512 * i.val; omega)
  | ⟨1, _⟩ => exact Fin.ext (by show 0 + 1 * (j (1 : Fin 2)).val = (j (1 : Fin 2)).val; omega)

/-- A device's row comes out of its slot as it went in. -/
theorem part_row (c : Dev nD) (j : S1x1024.Idx) :
    shapeCast S1x1024 (part m c) shapeCasts_S1x1x1024_S1x1024 j = own m c j :=
  congrFun (shapeCast_shapeCast (own m c) shapeCasts_S1x1024_S1x1x1024 shapeCasts_S1x1x1024_S1x1024) j

/-- Every device's result is the sum of the four devices' rows. -/
theorem total_devices (c : Dev nD) (j : S1x1024.Idx) : total m c j = ∑ d : Fin 4, own m d j := by
  have e : total m c j = own m c j + own m (bwd c 0) j + own m (bwd c 2) j + own m (bwd c 1) j := by
    rw [← part_row m (bwd c 0) j, ← part_row m (bwd c 2) j, ← part_row m (bwd c 1) j]
    rfl
  have hs : (Finset.univ : Finset (Fin 4)) = {c, bwd c 0, bwd c 2, bwd c 1} := by clear e; revert c; decide
  have h1 : c ∉ ({bwd c 0, bwd c 2, bwd c 1} : Finset (Fin 4)) := by clear e hs; revert c; decide
  have h2 : bwd c 0 ∉ ({bwd c 2, bwd c 1} : Finset (Fin 4)) := by clear e hs h1; revert c; decide
  have h3 : bwd c 2 ∉ ({bwd c 1} : Finset (Fin 4)) := by clear e hs h1 h2; revert c; decide
  rw [e, hs, Finset.sum_insert h1, Finset.sum_insert h2, Finset.sum_insert h3, Finset.sum_singleton]
  simp only [add_assoc]

/-- If the devices hold the four blocks of rows of `V`, each of them ends with the column sums of `V`. -/
theorem total_whole (V : (⟨2, ![16384, 1024]⟩ : Shape).Idx → EReal)
    (hV : ∀ c : Dev nD, rows m c = Layout.block ⟨2, ![4096, 1024]⟩ ⟨2, ![16384, 1024]⟩ 0 4 c V)
    (c : Dev nD) (j : S1x1024.Idx) : total m c j = colSum (n := 16384) V (j (1 : Fin 2)) := by
  rw [total_devices]
  refine Eq.trans ?_ (sum_blocks 4 4096 fun x : Fin (4 * 4096) => V (at2 (n := 16384) x (j (1 : Fin 2))))
  refine Finset.sum_congr rfl fun d _ => ?_
  rw [own_rows, hV d]
  refine Finset.sum_congr rfl fun r _ => congrArg V (funext fun a => ?_)
  match a with
  | ⟨0, _⟩ => exact Fin.ext (by show d.val * 4096 + r.val = r.val + 4096 * d.val; omega)
  | ⟨1, _⟩ => rfl

end Ideal

/-! ## The reference's row -/

/-- The reference's result: the column sums of its matrix. -/
theorem reference_row (V : FVec Ideal ReferenceIdeal.S16384x1024 .bf16) (j : S1x1024.Idx) :
    truncf (F := Ideal) .bf16 (broadcastInDim ReferenceIdeal.S1x1024 ![1] ReferenceIdeal.Gen.bcast_S1024_S1x1024_1
      (Host.reduceAdd (extf (F := Ideal) .f32 V ReferenceIdeal.Gen.bitsLt_bf16_f32)
        (constant ReferenceIdeal.S_ .f32 0x00000000#32) ReferenceIdeal.Gen.reducesTo_S16384x1024_S1024_d0 ReferenceIdeal.Gen.h_S_))
      ReferenceIdeal.Gen.bitsLt_bf16_f32 j = colSum (n := 16384) V (j (1 : Fin 2)) := by
  have h : ReferenceIdeal.S16384x1024.Reduces [0] ReferenceIdeal.S1024 := by decide
  refine Eq.trans (b := Host.reduceAdd (F := Ideal) (φ := .f32) V
    (constant (F := Ideal) ReferenceIdeal.S_ .f32 0x00000000#32) ReferenceIdeal.Gen.reducesTo_S16384x1024_S1024_d0
    ReferenceIdeal.Gen.h_S_ (at1 (j (1 : Fin 2)))) ?_ ?_
  · refine congrArg (Host.reduceAdd (F := Ideal) (φ := .f32) V
      (constant (F := Ideal) ReferenceIdeal.S_ .f32 0x00000000#32) ReferenceIdeal.Gen.reducesTo_S16384x1024_S1024_d0
      ReferenceIdeal.Gen.h_S_) (funext fun a => ?_)
    match a with
    | ⟨0, _⟩ => rfl
  · refine (Ideal.hostReduceAdd_single _ h V _ _).trans ?_
    rw [show (constant (F := Ideal) ReferenceIdeal.S_ .f32 0x00000000#32) (Shape.Idx.first ReferenceIdeal.Gen.h_S_) = (0 : EReal)
      from Ideal.ofBits_zero_f32, zero_add]
    refine Finset.sum_congr rfl fun r _ => congrArg V (funext fun a => ?_)
    match a with
    | ⟨0, _⟩ => rfl
    | ⟨1, _⟩ => rfl

end Cert.ColSum

end
-- ==== Proof.lean ====
/-
# The column-sum all-reduce on four devices: the certificate

Four devices hold the four blocks of rows of a matrix, and each ends with the row of column sums of the whole matrix.
The modules `Proof/ColSum` run the kernel once, for any float values, and read its result over the extended reals; here
the five claims are taken from that run and from the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.ColSum.Launch
public import proofs.«01_k».proof.Proof.ColSum.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel and its idealized program have the same body, -/
theorem body_same : Cert.Kernel.defs₀ (F := Bits) = Cert.KernelIdeal.defs₀ (F := Bits) := by
  refine congrArg Defs.onTc (funext fun ℓ => funext fun a => ?_)
  match ℓ, a with
  | ⟨0, _⟩, (_, _) => rfl

/-- and so the same code throughout. -/
theorem defs_same : Cert.Kernel.defs (F := Bits) = Cert.KernelIdeal.defs (F := Bits) :=
  congrArg (Pipeline.defs Cert.Kernel.pcfgs) body_same

/-- The kernel ends, with its arguments unchanged and every semaphore at zero: the idealized program has the same text, and
    its run holds for any float values. -/
theorem frame_kernel : Cert.quiescent_Kernel := by
  intro m ρ _
  rw [defs_same]
  exact (θ_run (Cert.KernelIdeal.defs (F := Bits)) (onTc (τ := Cert.KernelIdeal.τ) (Cert.KernelIdeal.main (F := Bits))) ⟨m, fun _ => 0, ρ⟩).mono
    (fun _ h => ⟨fun c => (h.1 c).2, h.2⟩) (Cert.ColSum.run_main (F := Bits) m ρ)

/-- The same of the idealized kernel, -/
theorem frame_ideal : Cert.quiescent_KernelIdeal := fun m ρ _ =>
  (θ_run Cert.KernelIdeal.defs _ _).mono (fun _ h => ⟨fun c => (h.1 c).2, h.2⟩) (Cert.ColSum.run_main (F := Ideal) m ρ)

/-- and of the reference, which has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals, every device's result is the reference's: both are the column sums of the whole matrix. -/
theorem same_value : Cert.algebraic_KernelIdeal_ReferenceIdeal := by
  intro m g m' g' _ hargs
  refine ⟨fun j => Cert.ColSum.colSum (n := 16384) (m' (((0 : Dev Cert.ReferenceIdeal.nD).tc :
      Thread Cert.ReferenceIdeal.nD Cert.ReferenceIdeal.τ).loc Cert.ReferenceIdeal.main_arg0)) (j (1 : Fin 2)), ?_, ?_⟩
  · refine (θ_run Cert.KernelIdeal.defs _ _).mono (fun r h c => ⟨?_, (h.1 c).2⟩) (Cert.ColSum.run_main (F := Ideal) m g)
    refine ((h.1 c).1 (0 : Fin 1)).trans ((Cert.ColSum.result_eq m c).trans (funext fun j => ?_))
    exact Cert.ColSum.total_whole m _ hargs c j
  · refine (θ_run Cert.ReferenceIdeal.defs _ _).mono (fun r h => ⟨?_, (h 0).2⟩) (Cert.ReferenceIdeal.Value.run (F := Ideal) m' g')
    exact (h 0).1.trans (funext fun j => Cert.ColSum.reference_row _ j)

/-- The five claims. -/
theorem claim : Cert.Claim := ⟨Cert.Kernel.Gen.facts, Cert.KernelIdeal.Gen.facts, Cert.ReferenceIdeal.Gen.facts,
  frame_kernel, frame_ideal, frame_reference, trivial, same_value⟩

end Cert.Proof

end
